-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Gather [hPre_codes_name_rows : Cert.Pre_codes_name_rows.Facts] (m : (ℓ : Loc Cert.Gather.nD Cert.Gather.τ Cert.Gather.sig) → Buf (Elt Bits) ℓ) : Prop :=
  ∀ c : Dev Cert.Gather.nD,
    (Cert.Pre_codes_name_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_codes_name_rows : Cert.Pre_codes_name_rows.Facts] (m : (ℓ : Loc Cert.GatherIdeal.nD Cert.GatherIdeal.τ Cert.GatherIdeal.sig) → Buf (Elt Ideal) ℓ) : Prop :=
  ∀ c : Dev Cert.GatherIdeal.nD,
    (Cert.Pre_codes_name_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_codes_name_rows [hPre_codes_name_rows : Cert.Pre_codes_name_rows.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_codes_name_rows.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def Pre_GatherReference [hPre_codes_name_rows : Cert.Pre_codes_name_rows.Facts] (m : (ℓ : Loc Cert.GatherReference.nD Cert.GatherReference.τ Cert.GatherReference.sig) → Buf (Elt Bits) ℓ) : Prop :=
  ∀ c : Dev Cert.GatherReference.nD,
    (Cert.Pre_codes_name_rows.fn (F := Bits) (m ((c.tc : Thread Cert.GatherReference.nD Cert.GatherReference.τ).loc Cert.GatherReference.main_arg0)) (m ((c.tc : Thread Cert.GatherReference.nD Cert.GatherReference.τ).loc Cert.GatherReference.main_arg1))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_finite [hPre_finite : Cert.Pre_finite.Facts] (m : (ℓ : Loc Cert.NearestIdeal.nD Cert.NearestIdeal.τ Cert.NearestIdeal.sig) → Buf (Elt Ideal) ℓ) : Prop :=
  ∀ c : Dev Cert.NearestIdeal.nD,
    (Cert.Pre_finite.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1))).1 = (fun _ => 1#1)
    ∧ (Cert.Pre_finite.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1))).2 = (fun _ => 1#1)

def Pre_NearestReferenceIdeal (m : (ℓ : Loc Cert.NearestReferenceIdeal.nD Cert.NearestReferenceIdeal.τ Cert.NearestReferenceIdeal.sig) → Buf (Elt Ideal) ℓ) : Prop :=
  True

def Pre_NearestReferenceIdeal_finite [hPre_finite : Cert.Pre_finite.Facts] (m : (ℓ : Loc Cert.NearestReferenceIdeal.nD Cert.NearestReferenceIdeal.τ Cert.NearestReferenceIdeal.sig) → Buf (Elt Ideal) ℓ) : Prop :=
  ∀ c : Dev Cert.NearestReferenceIdeal.nD,
    (Cert.Pre_finite.fn (F := Ideal) (m ((c.tc : Thread Cert.NearestReferenceIdeal.nD Cert.NearestReferenceIdeal.τ).loc Cert.NearestReferenceIdeal.main_arg0)) (m ((c.tc : Thread Cert.NearestReferenceIdeal.nD Cert.NearestReferenceIdeal.τ).loc Cert.NearestReferenceIdeal.main_arg1))).1 = (fun _ => 1#1)
    ∧ (Cert.Pre_finite.fn (F := Ideal) (m ((c.tc : Thread Cert.NearestReferenceIdeal.nD Cert.NearestReferenceIdeal.τ).loc Cert.NearestReferenceIdeal.main_arg0)) (m ((c.tc : Thread Cert.NearestReferenceIdeal.nD Cert.NearestReferenceIdeal.τ).loc Cert.NearestReferenceIdeal.main_arg1))).2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_codes_name_rows : Cert.Pre_codes_name_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_codes_name_rows : Cert.Pre_codes_name_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_codes_name_rows [hGatherReferenceIdeal : Cert.GatherReferenceIdeal.Facts] [hPre_codes_name_rows : Cert.Pre_codes_name_rows.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_codes_name_rows m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReference [hGatherReference : Cert.GatherReference.Facts] [hPre_codes_name_rows : Cert.Pre_codes_name_rows.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestIdeal_pre_finite [hNearestIdeal : Cert.NearestIdeal.Facts] [hPre_finite : Cert.Pre_finite.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_finite m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestReferenceIdeal [hNearestReferenceIdeal : Cert.NearestReferenceIdeal.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1))
      ∧ r.2.sem = fun _ => 0)

def quiescent_NearestReferenceIdeal_pre_finite [hNearestReferenceIdeal : Cert.NearestReferenceIdeal.Facts] [hPre_finite : Cert.Pre_finite.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal_finite m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gather_GatherIdeal : Prop :=
  True

def algebraic_GatherIdeal_GatherReferenceIdeal [hGatherIdeal : Cert.GatherIdeal.Facts] [hGatherReferenceIdeal : Cert.GatherReferenceIdeal.Facts] [hPre_codes_name_rows : Cert.Pre_codes_name_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v0) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def bitexact_Gather_GatherReference [hGather : Cert.Gather.Facts] [hGatherReference : Cert.GatherReference.Facts] [hPre_codes_name_rows : Cert.Pre_codes_name_rows.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v2)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v2) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v0) = v0 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1))

def preserves_Nearest_NearestIdeal : Prop :=
  True

def algebraic_NearestIdeal_NearestReferenceIdeal_pre_finite [hNearestIdeal : Cert.NearestIdeal.Facts] [hNearestReferenceIdeal : Cert.NearestReferenceIdeal.Facts] [hPre_finite : Cert.Pre_finite.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestReferenceIdeal.nD Cert.NearestReferenceIdeal.τ Cert.NearestReferenceIdeal.sig) → Buf (Elt Ideal) ℓ) (g' : Dev Cert.NearestReferenceIdeal.nD → PrngReg), Pre_NearestIdeal_finite m →
    (∀ c : Dev Cert.NearestIdeal.nD,
      m' ((c.tc : Thread Cert.NearestReferenceIdeal.nD Cert.NearestReferenceIdeal.τ).loc Cert.NearestReferenceIdeal.main_arg0) = m ((c.tc : Thread Cert.NearestIdeal.nD Cert.NearestIdeal.τ).loc Cert.NearestIdeal.main_arg0)
      ∧ m' ((c.tc : Thread Cert.NearestReferenceIdeal.nD Cert.NearestReferenceIdeal.τ).loc Cert.NearestReferenceIdeal.main_arg1) = m ((c.tc : Thread Cert.NearestIdeal.nD Cert.NearestIdeal.τ).loc Cert.NearestIdeal.main_arg1)) →
    ∃ (v0 : (c : Dev Cert.NearestIdeal.nD) → Buf (Elt Ideal) ((c.tc : Thread Cert.NearestIdeal.nD Cert.NearestIdeal.τ).loc Cert.NearestIdeal.main_v4)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v4) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ θ_run (Cert.NearestReferenceIdeal.defs (F := Ideal)) (onTc (τ := Cert.NearestReferenceIdeal.τ) (Cert.NearestReferenceIdeal.main (F := Ideal))) ⟨m', fun _ => 0, g'⟩ (fun r => ∀ c : Dev Cert.NearestReferenceIdeal.nD,
          r.2.mem ((c.tc : Thread Cert.NearestReferenceIdeal.nD Cert.NearestReferenceIdeal.τ).loc Cert.NearestReferenceIdeal.main_v14) = v0 c
          ∧ r.2.mem ((c.tc : Thread Cert.NearestReferenceIdeal.nD Cert.NearestReferenceIdeal.τ).loc Cert.NearestReferenceIdeal.main_arg0) = m' ((c.tc : Thread Cert.NearestReferenceIdeal.nD Cert.NearestReferenceIdeal.τ).loc Cert.NearestReferenceIdeal.main_arg0)
          ∧ r.2.mem ((c.tc : Thread Cert.NearestReferenceIdeal.nD Cert.NearestReferenceIdeal.τ).loc Cert.NearestReferenceIdeal.main_arg1) = m' ((c.tc : Thread Cert.NearestReferenceIdeal.nD Cert.NearestReferenceIdeal.τ).loc Cert.NearestReferenceIdeal.main_arg1))

def Claim : Prop :=
  ∃ (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hGatherReference : Cert.GatherReference.Facts) (hNearest : Cert.Nearest.Facts) (hNearestIdeal : Cert.NearestIdeal.Facts) (hNearestReferenceIdeal : Cert.NearestReferenceIdeal.Facts) (hPre_finite : Cert.Pre_finite.Facts) (hPre_codes_name_rows : Cert.Pre_codes_name_rows.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gather (hGather := hGather) (hPre_codes_name_rows := hPre_codes_name_rows)
    ∧ quiescent_GatherIdeal (hGatherIdeal := hGatherIdeal) (hPre_codes_name_rows := hPre_codes_name_rows)
    ∧ quiescent_GatherReferenceIdeal (hGatherReferenceIdeal := hGatherReferenceIdeal)
    ∧ quiescent_GatherReferenceIdeal_pre_codes_name_rows (hGatherReferenceIdeal := hGatherReferenceIdeal) (hPre_codes_name_rows := hPre_codes_name_rows)
    ∧ quiescent_GatherReference (hGatherReference := hGatherReference) (hPre_codes_name_rows := hPre_codes_name_rows)
    ∧ quiescent_Nearest (hNearest := hNearest)
    ∧ quiescent_NearestIdeal (hNearestIdeal := hNearestIdeal)
    ∧ quiescent_NearestIdeal_pre_finite (hNearestIdeal := hNearestIdeal) (hPre_finite := hPre_finite)
    ∧ quiescent_NearestReferenceIdeal (hNearestReferenceIdeal := hNearestReferenceIdeal)
    ∧ quiescent_NearestReferenceIdeal_pre_finite (hNearestReferenceIdeal := hNearestReferenceIdeal) (hPre_finite := hPre_finite)
    ∧ algebraic_KernelIdeal_ReferenceIdeal_pre_finite (hKernelIdeal := hKernelIdeal) (hReferenceIdeal := hReferenceIdeal) (hPre_finite := hPre_finite)
    ∧ preserves_Gather_GatherIdeal
    ∧ algebraic_GatherIdeal_GatherReferenceIdeal (hGatherIdeal := hGatherIdeal) (hGatherReferenceIdeal := hGatherReferenceIdeal) (hPre_codes_name_rows := hPre_codes_name_rows)
    ∧ bitexact_Gather_GatherReference (hGather := hGather) (hGatherReference := hGatherReference) (hPre_codes_name_rows := hPre_codes_name_rows)
    ∧ preserves_Nearest_NearestIdeal
    ∧ algebraic_NearestIdeal_NearestReferenceIdeal_pre_finite (hNearestIdeal := hNearestIdeal) (hNearestReferenceIdeal := hNearestReferenceIdeal) (hPre_finite := hPre_finite)
-- ==== Pre_codes_name_rows.lean ====
abbrev S1296x256 : Shape := ⟨2, ![1296, 256]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S1296x256 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1296#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_finite.lean ====
abbrev S16x32x32x256 : Shape := ⟨4, ![16, 32, 32, 256]⟩
abbrev S1296x256 : Shape := ⟨2, ![1296, 256]⟩
abbrev S_ : Shape := ⟨0, ![]⟩

class Facts : Prop where
  bcast_S_S16x32x32x256 : S_.BroadcastsInDim S16x32x32x256 (![] : Fin 0 → Fin S16x32x32x256.rank)
  reducesTo_S16x32x32x256_S_d0_1_2_3 : S16x32x32x256.ReducesTo [0, 1, 2, 3] S_
  h_S_ : 0 < S_.numel
  bcast_S_S1296x256 : S_.BroadcastsInDim S1296x256 (![] : Fin 0 → Fin S1296x256.rank)
  reducesTo_S1296x256_S_d0_1 : S1296x256.ReducesTo [0, 1] S_

variable [Facts]

def fn {F : FTy → Type} [FloatOps F] (main_arg0 : FVec F S16x32x32x256 .f32) (main_arg1 : FVec F S1296x256 .f32) : IVec S_ 1 × IVec S_ 1 :=
  let main_v0 : FVec F S16x32x32x256 .f32 := Host.absf main_arg0
  let main_cst : FVec F S_ .f32 := constant S_ .f32 0x7F800000#32
  let main_v1 : FVec F S16x32x32x256 .f32 := broadcastInDim S16x32x32x256 ![] bcast_S_S16x32x32x256 main_cst
  let main_v2 : IVec S16x32x32x256 1 := cmpf .olt main_v0 main_v1
  let main_c : IVec S_ 1 := constantI S_ 1 1#1
  let main_v3 : IVec S_ 1 := (fun x v => Host.reduce IntOp.andi x v reducesTo_S16x32x32x256_S_d0_1_2_3 h_S_) main_v2 main_c
  let main_v4 : FVec F S1296x256 .f32 := Host.absf main_arg1
  let main_cst_0 : FVec F S_ .f32 := constant S_ .f32 0x7F800000#32
  let main_v5 : FVec F S1296x256 .f32 := broadcastInDim S1296x256 ![] bcast_S_S1296x256 main_cst_0
  let main_v6 : IVec S1296x256 1 := cmpf .olt main_v4 main_v5
  let main_c_1 : IVec S_ 1 := constantI S_ 1 1#1
  let main_v7 : IVec S_ 1 := (fun x v => Host.reduce IntOp.andi x v reducesTo_S1296x256_S_d0_1 h_S_) main_v6 main_c_1
  (main_v3, main_v7)
-- ==== KernelIdeal.lean ====
abbrev S16x32x32x256 : Shape := ⟨4, ![16, 32, 32, 256]⟩
abbrev S1296x256 : Shape := ⟨2, ![1296, 256]⟩
abbrev S16384x256 : Shape := ⟨2, ![16384, 256]⟩
abbrev S_ : Shape := ⟨0, ![]⟩
abbrev S1296 : Shape := ⟨1, ![1296]⟩
abbrev S1x1296 : Shape := ⟨2, ![1, 1296]⟩
abbrev S32x1x512 : Shape := ⟨3, ![32, 1, 512]⟩
abbrev S512x256 : Shape := ⟨2, ![512, 256]⟩
abbrev S1x1x512 : Shape := ⟨3, ![1, 1, 512]⟩
abbrev S512x1296 : Shape := ⟨2, ![512, 1296]⟩
abbrev S512 : Shape := ⟨1, ![512]⟩
abbrev S512x1 : Shape := ⟨2, ![512, 1]⟩
abbrev S16384 : Shape := ⟨1, ![16384]⟩
abbrev S1296x2x128 : Shape := ⟨3, ![1296, 2, 128]⟩
abbrev S16384x2x128 : Shape := ⟨3, ![16384, 2, 128]⟩
abbrev S128 : Shape := ⟨1, ![128]⟩
abbrev S128x2x128 : Shape := ⟨3, ![128, 2, 128]⟩
abbrev S16x32x32 : Shape := ⟨3, ![16, 32, 32]⟩

abbrev nBuf : Table → Nat
  | .hbm => 13
  | .local .tc .vmem => 6
  | .local .scVector .vmem => 4
  | _ => 0

abbrev bufTy : (tb : Table) → Fin (nBuf tb) → BufTy
  | .hbm, ⟨0, _⟩ => ⟨S16x32x32x256, .f32⟩
  | .hbm, ⟨1, _⟩ => ⟨S1296x256, .f32⟩
  | .hbm, ⟨2, _⟩ => ⟨S16384x256, .f32⟩
  | .hbm, ⟨3, _⟩ => ⟨S1296x256, .f32⟩
  | .hbm, ⟨4, _⟩ => ⟨S_, .f32⟩
  | .hbm, ⟨5, _⟩ => ⟨S1296, .f32⟩
  | .hbm, ⟨6, _⟩ => ⟨S1x1296, .f32⟩
  | .hbm, ⟨7, _⟩ => ⟨S32x1x512, .i32⟩
  | .hbm, ⟨8, _⟩ => ⟨S16384, .i32⟩
  | .hbm, ⟨9, _⟩ => ⟨S1296x2x128, .f32⟩
  | .hbm, ⟨10, _⟩ => ⟨S16384x2x128, .f32⟩
  | .hbm, ⟨11, _⟩ => ⟨S16x32x32, .i32⟩
  | .hbm, ⟨12, _⟩ => ⟨S16x32x32x256, .f32⟩
  | .local .tc .vmem, ⟨0, _⟩ => ⟨S512x256, .f32⟩
  | .local .tc .vmem, ⟨1, _⟩ => ⟨S512x256, .f32⟩
  | .local .tc .vmem, ⟨2, _⟩ => ⟨S1296x256, .f32⟩
  | .local .tc .vmem, ⟨3, _⟩ => ⟨S1x1296, .f32⟩
  | .local .tc .vmem, ⟨4, _⟩ => ⟨S1x1x512, .i32⟩
  | .local .tc .vmem, ⟨5, _⟩ => ⟨S1x1x512, .i32⟩
  | .local .scVector .vmem, ⟨0, _⟩ => ⟨S128, .i32⟩
  | .local .scVector .vmem, ⟨1, _⟩ => ⟨S128, .i32⟩
  | .local .scVector .vmem, ⟨2, _⟩ => ⟨S128x2x128, .f32⟩
  | .local .scVector .vmem, ⟨3, _⟩ => ⟨S128x2x128, .f32⟩
  | _, _ => ⟨S16x32x32x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v6_scv : Ref sig .scVector := ⟨.hbm, 9, rfl⟩
abbrev main_v5_scv : Ref sig .scVector := ⟨.hbm, 8, rfl⟩
abbrev main_v7_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1296x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1296 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
def k1_off2 (i : grid1.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_6 : BitVec 32 := 0#32
  let c0_i32_7 : BitVec 32 := 0#32
  ![v3.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x32x32x256 : Shape := ⟨4, ![16, 32, 32, 256]⟩
abbrev S1296x256 : Shape := ⟨2, ![1296, 256]⟩
abbrev S_ : Shape := ⟨0, ![]⟩
abbrev S16x32x32 : Shape := ⟨3, ![16, 32, 32]⟩
abbrev S16x32x32x1 : Shape := ⟨4, ![16, 32, 32, 1]⟩
abbrev S1296 : Shape := ⟨1, ![1296]⟩
abbrev S16x32x32x1296 : Shape := ⟨4, ![16, 32, 32, 1296]⟩
abbrev S1x1x1x1296 : Shape := ⟨4, ![1, 1, 1, 1296]⟩
abbrev S1 : Shape := ⟨1, ![1]⟩
abbrev S1x1x1x1 : Shape := ⟨4, ![1, 1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S16x32x32x256, .f32⟩
  | .hbm, ⟨1, _⟩ => ⟨S1296x256, .f32⟩
  | .hbm, ⟨2, _⟩ => ⟨S16x32x32x256, .f32⟩
  | .hbm, ⟨3, _⟩ => ⟨S_, .f32⟩
  | .hbm, ⟨4, _⟩ => ⟨S16x32x32, .f32⟩
  | .hbm, ⟨5, _⟩ => ⟨S16x32x32x1, .f32⟩
  | .hbm, ⟨6, _⟩ => ⟨S1296x256, .f32⟩
  | .hbm, ⟨7, _⟩ => ⟨S_, .f32⟩
  | .hbm, ⟨8, _⟩ => ⟨S1296, .f32⟩
  | .hbm, ⟨9, _⟩ => ⟨S16x32x32x1296, .f32⟩
  | .hbm, ⟨10, _⟩ => ⟨S1x1x1x1296, .f32⟩
  | .hbm, ⟨11, _⟩ => ⟨S16x32x32x1296, .f32⟩
  | .hbm, ⟨12, _⟩ => ⟨S16x32x32x1296, .f32⟩
  | .hbm, ⟨13, _⟩ => ⟨S16x32x32x1296, .f32⟩
  | .hbm, ⟨14, _⟩ => ⟨S_, .f32⟩
  | .hbm, ⟨15, _⟩ => ⟨S16x32x32x1296, .f32⟩
  | .hbm, ⟨16, _⟩ => ⟨S16x32x32x1296, .f32⟩
  | .hbm, ⟨17, _⟩ => ⟨S16x32x32x1296, .f32⟩
  | .hbm, ⟨18, _⟩ => ⟨S16x32x32x1296, .i32⟩
  | .hbm, ⟨19, _⟩ => ⟨S_, .f32⟩
  | .hbm, ⟨20, _⟩ => ⟨S_, .i32⟩
  | .hbm, ⟨21, _⟩ => ⟨S16x32x32, .f32⟩
  | .hbm, ⟨22, _⟩ => ⟨S16x32x32, .i32⟩
  | .hbm, ⟨23, _⟩ => ⟨S_, .i32⟩
  | .hbm, ⟨24, _⟩ => ⟨S16x32x32, .i32⟩
  | .hbm, ⟨25, _⟩ => ⟨S16x32x32, .i1⟩
  | .hbm, ⟨26, _⟩ => ⟨S_, .i32⟩
  | .hbm, ⟨27, _⟩ => ⟨S16x32x32, .i32⟩
  | .hbm, ⟨28, _⟩ => ⟨S16x32x32, .i32⟩
  | .hbm, ⟨29, _⟩ => ⟨S16x32x32, .i32⟩
  | .hbm, ⟨30, _⟩ => ⟨S16x32x32x1, .i32⟩
  | .hbm, ⟨31, _⟩ => ⟨S1, .i32⟩
  | .hbm, ⟨32, _⟩ => ⟨S_, .i32⟩
  | .hbm, ⟨33, _⟩ => ⟨S16x32x32x1, .i32⟩
  | .hbm, ⟨34, _⟩ => ⟨S16x32x32x1, .i1⟩
  | .hbm, ⟨35, _⟩ => ⟨S1x1x1x1, .i32⟩
  | .hbm, ⟨36, _⟩ => ⟨S16x32x32x1, .i32⟩
  | .hbm, ⟨37, _⟩ => ⟨S16x32x32x1, .i1⟩
  | .hbm, ⟨38, _⟩ => ⟨S16x32x32x1, .i1⟩
  | .hbm, ⟨39, _⟩ => ⟨S_, .i1⟩
  | .hbm, ⟨40, _⟩ => ⟨S16x32x32, .i1⟩
  | .hbm, ⟨41, _⟩ => ⟨S16x32x32x256, .f32⟩
  | .hbm, ⟨42, _⟩ => ⟨S16x32x32x256, .i1⟩
  | .hbm, ⟨43, _⟩ => ⟨S_, .f32⟩
  | .hbm, ⟨44, _⟩ => ⟨S16x32x32x256, .f32⟩
  | .hbm, ⟨45, _⟩ => ⟨S16x32x32x256, .f32⟩
  | _, _ => ⟨S16x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v14 : Ref sig .tc := ⟨.hbm, 45, rfl⟩

abbrev nD : Nat := 1
abbrev τ : Topo := Topo.v7x

variable {F : FTy → Type} [FloatOps F]
-- ==== Gather.lean ====
abbrev S1296x256 : Shape := ⟨2, ![1296, 256]⟩
abbrev S16384 : Shape := ⟨1, ![16384]⟩
abbrev S1296x2x128 : Shape := ⟨3, ![1296, 2, 128]⟩
abbrev S16384x2x128 : Shape := ⟨3, ![16384, 2, 128]⟩
abbrev S128 : Shape := ⟨1, ![128]⟩
abbrev S128x2x128 : Shape := ⟨3, ![128, 2, 128]⟩
abbrev S_ : Shape := ⟨0, ![]⟩
abbrev S16384x256 : Shape := ⟨2, ![16384, 256]⟩

abbrev nBuf : Table → Nat
  | .hbm => 5
  | .local .scVector .vmem => 4
  | _ => 0

abbrev bufTy : (tb : Table) → Fin (nBuf tb) → BufTy
  | .hbm, ⟨0, _⟩ => ⟨S1296x256, .f32⟩
  | .hbm, ⟨1, _⟩ => ⟨S16384, .i32⟩
  | .hbm, ⟨2, _⟩ => ⟨S1296x2x128, .f32⟩
  | .hbm, ⟨3, _⟩ => ⟨S16384x2x128, .f32⟩
  | .hbm, ⟨4, _⟩ => ⟨S16384x256, .f32⟩
  | .local .scVector .vmem, ⟨0, _⟩ => ⟨S128, .i32⟩
  | .local .scVector .vmem, ⟨1, _⟩ => ⟨S128, .i32⟩
  | .local .scVector .vmem, ⟨2, _⟩ => ⟨S128x2x128, .f32⟩
  | .local .scVector .vmem, ⟨3, _⟩ => ⟨S128x2x128, .f32⟩
  | _, _ => ⟨S1296x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
def k0_off2 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_6 : BitVec 32 := 0#32
  let c0_i32_7 : BitVec 32 := 0#32
  ![v3.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReference.lean ====
abbrev S1296x256 : Shape := ⟨2, ![1296, 256]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x256 : Shape := ⟨2, ![16384, 256]⟩

abbrev nBuf : Space → Nat
  | .hbm => 25
  | .vmem => 0
  | .smem => 0
  | _ => 0

abbrev bufTy : (tb : Table) → Fin (tcTables nBuf tb) → BufTy
  | .hbm, ⟨0, _⟩ => ⟨S1296x256, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x256, .f32⟩
  | .hbm, ⟨21, _⟩ => ⟨S16384x256, .i1⟩
  | .hbm, ⟨22, _⟩ => ⟨S_, .f32⟩
  | .hbm, ⟨23, _⟩ => ⟨S16384x256, .f32⟩
  | .hbm, ⟨24, _⟩ => ⟨S16384x256, .f32⟩
  | _, _ => ⟨S1296x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Nearest.lean ====
abbrev S16x32x32x256 : Shape := ⟨4, ![16, 32, 32, 256]⟩
abbrev S1296x256 : Shape := ⟨2, ![1296, 256]⟩
abbrev S_ : Shape := ⟨0, ![]⟩
abbrev S1296 : Shape := ⟨1, ![1296]⟩
abbrev S1x1296 : Shape := ⟨2, ![1, 1296]⟩
abbrev S16384x256 : Shape := ⟨2, ![16384, 256]⟩
abbrev S32x1x512 : Shape := ⟨3, ![32, 1, 512]⟩
abbrev S512x256 : Shape := ⟨2, ![512, 256]⟩
abbrev S1x1x512 : Shape := ⟨3, ![1, 1, 512]⟩
abbrev S512x1296 : Shape := ⟨2, ![512, 1296]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x32x32x256, .f32⟩
  | .hbm, ⟨1, _⟩ => ⟨S1296x256, .f32⟩
  | .hbm, ⟨2, _⟩ => ⟨S1296x256, .f32⟩
  | .hbm, ⟨3, _⟩ => ⟨S_, .f32⟩
  | .hbm, ⟨4, _⟩ => ⟨S1296, .f32⟩
  | .hbm, ⟨5, _⟩ => ⟨S1x1296, .f32⟩
  | .hbm, ⟨6, _⟩ => ⟨S16384x256, .f32⟩
  | .hbm, ⟨7, _⟩ => ⟨S32x1x512, .i32⟩
  | .local _ .vmem, ⟨0, _⟩ => ⟨S512x256, .f32⟩
  | .local _ .vmem, ⟨1, _⟩ => ⟨S512x256, .f32⟩
  | .local _ .vmem, ⟨2, _⟩ => ⟨S1296x256, .f32⟩
  | .local _ .vmem, ⟨3, _⟩ => ⟨S1x1296, .f32⟩
  | .local _ .vmem, ⟨4, _⟩ => ⟨S1x1x512, .i32⟩
  | .local _ .vmem, ⟨5, _⟩ => ⟨S1x1x512, .i32⟩
  | _, _ => ⟨S16x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1296x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1296 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NearestReferenceIdeal.lean ====
abbrev S16x32x32x256 : Shape := ⟨4, ![16, 32, 32, 256]⟩
abbrev S1296x256 : Shape := ⟨2, ![1296, 256]⟩
abbrev S_ : Shape := ⟨0, ![]⟩
abbrev S16x32x32 : Shape := ⟨3, ![16, 32, 32]⟩
abbrev S16x32x32x1 : Shape := ⟨4, ![16, 32, 32, 1]⟩
abbrev S1296 : Shape := ⟨1, ![1296]⟩
abbrev S16x32x32x1296 : Shape := ⟨4, ![16, 32, 32, 1296]⟩
abbrev S1x1x1x1296 : Shape := ⟨4, ![1, 1, 1, 1296]⟩
abbrev S32x1x512 : Shape := ⟨3, ![32, 1, 512]⟩

abbrev nBuf : Space → Nat
  | .hbm => 24
  | .vmem => 0
  | .smem => 0
  | _ => 0

abbrev bufTy : (tb : Table) → Fin (tcTables nBuf tb) → BufTy
  | .hbm, ⟨0, _⟩ => ⟨S16x32x32x256, .f32⟩
  | .hbm, ⟨1, _⟩ => ⟨S1296x256, .f32⟩
  | .hbm, ⟨2, _⟩ => ⟨S16x32x32x256, .f32⟩
  | .hbm, ⟨3, _⟩ => ⟨S_, .f32⟩
  | .hbm, ⟨4, _⟩ => ⟨S16x32x32, .f32⟩
  | .hbm, ⟨5, _⟩ => ⟨S16x32x32x1, .f32⟩
  | .hbm, ⟨6, _⟩ => ⟨S1296x256, .f32⟩
  | .hbm, ⟨7, _⟩ => ⟨S_, .f32⟩
  | .hbm, ⟨8, _⟩ => ⟨S1296, .f32⟩
  | .hbm, ⟨9, _⟩ => ⟨S16x32x32x1296, .f32⟩
  | .hbm, ⟨10, _⟩ => ⟨S1x1x1x1296, .f32⟩
  | .hbm, ⟨11, _⟩ => ⟨S16x32x32x1296, .f32⟩
  | .hbm, ⟨12, _⟩ => ⟨S16x32x32x1296, .f32⟩
  | .hbm, ⟨13, _⟩ => ⟨S16x32x32x1296, .f32⟩
  | .hbm, ⟨14, _⟩ => ⟨S_, .f32⟩
  | .hbm, ⟨15, _⟩ => ⟨S16x32x32x1296, .f32⟩
  | .hbm, ⟨16, _⟩ => ⟨S16x32x32x1296, .f32⟩
  | .hbm, ⟨17, _⟩ => ⟨S16x32x32x1296, .f32⟩
  | .hbm, ⟨18, _⟩ => ⟨S16x32x32x1296, .i32⟩
  | .hbm, ⟨19, _⟩ => ⟨S_, .f32⟩
  | .hbm, ⟨20, _⟩ => ⟨S_, .i32⟩
  | .hbm, ⟨21, _⟩ => ⟨S16x32x32, .f32⟩
  | .hbm, ⟨22, _⟩ => ⟨S16x32x32, .i32⟩
  | .hbm, ⟨23, _⟩ => ⟨S32x1x512, .i32⟩
  | _, _ => ⟨S16x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Proof.Sc.Setup.lean ====
/-
  The gather on the SparseCore, set up for its launch: the signature, the semaphores' and
  transfers' algebra, the arrays it reads and writes, how the rows of the result are dealt to the
  thirty-two tiles, and what each tile is handed and hands back. The contents are named from the
  start: a tile brings its blocks of the result back holding the rows its codes name (`gath`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.Sc

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The table, the codes and the gathered rows, as the TensorCore's program names them. -/
abbrev tLoc (d : Dev nD) : Loc nD τ sig := (SparseCore.T d).loc main_v0
abbrev iLoc (d : Dev nD) : Loc nD τ sig := (SparseCore.T d).loc main_arg1
abbrev oLoc (d : Dev nD) : Loc nD τ sig := (SparseCore.T d).loc main_v1

/-- The place of code `n` in the list of codes. -/
def codeIx (n : Fin 16384) : S16384.Idx := fun | 0 => n

/-- Row `n` of the table, at the other coordinates of `j`. -/
def rowIx (n : Fin 1296) (j : S16384x2x128.Idx) : S1296x2x128.Idx := fun | 0 => n | 1 => j 1 | 2 => j 2

/-- THE GATHERED ROWS: row `j` is the table's row named by code `j`. (The remainder only makes the
    row a row for every word; a code in range is its own remainder.) -/
def gath {α : Type} (tb : S1296x2x128.Idx → α) (ix : S16384.Idx → BitVec 32) : S16384x2x128.Idx → α := fun j =>
  tb (rowIx ⟨(ix (codeIx (j 0))).toNat % 1296, Nat.mod_lt _ (by decide)⟩ j)

/-! ## Blocks of the result, and shares of what is only read -/

theorem odiv : 128 ∣ S16384x2x128.size 0 := ⟨128, rfl⟩

/-- Which of the 128 blocks of 128 rows chunk `r` of tile `s` of SparseCore `c` is. -/
def blkNo (k : Fin 2 × Fin 16 × Fin 4) : Fin 128 := ⟨8 * k.2.1.val + 4 * k.1.val + k.2.2.val, by omega⟩

theorem blkNo_injective : Function.Injective blkNo := by
  intro ⟨c, s, r⟩ ⟨c', s', r'⟩ h
  have h' : 8 * s.val + 4 * c.val + r.val = 8 * s'.val + 4 * c'.val + r'.val := congrArg Fin.val h
  ext <;> simp <;> omega

theorem blkNo_surjective : Function.Surjective blkNo := fun n =>
  ⟨(⟨n.val / 4 % 2, by omega⟩, ⟨n.val / 8, by omega⟩, ⟨n.val % 4, by omega⟩), Fin.ext (by simp only [blkNo]; omega)⟩

/-- The rows of one block. -/
abbrev oBlk (c : Fin 2) (s : Fin 16) (r : Fin 4) : Rect S16384x2x128 := Rect.part (s := S16384x2x128) (a₀ := 0) odiv (blkNo (c, s, r))
abbrev oBlkSet (c : Fin 2) (s : Fin 16) (r : Fin 4) : Finset S16384x2x128.Idx :=
  ((Memref.whole main_v1_scv : Memref sig .scVector .hbm S16384x2x128 .f32).view.slice (oBlk c s r)).set

/-- The share of the table and of the codes that tile `s` of SparseCore `c` reads under. -/
abbrev tq (c : Fin 2) (s : Fin 16) : PosShare TreeShare := pieceOf fullShare 32 (by decide) (finProdFinEquiv (c, s))

variable [FloatOps F]

/-! ## What the handshakes carry -/

/-- What one tile is handed: its share of the table `tb`, its share of the codes `ix`, and its four
    blocks of the result, at contents `o`. -/
def tilePts (tb : (d : Dev nD) → Buf (Elt F) (tLoc d)) (ix : (d : Dev nD) → Buf (Elt F) (iLoc d)) (o : (d : Dev nD) → Buf (Elt F) (oLoc d))
    (d : Dev nD) (c : Fin 2) (s : Fin 16) : sProp 𝕄 :=
  iprop((tLoc d ↦{tq c s} tb d) ∗ (iLoc d ↦{tq c s} ix d)
    ∗ (oLoc d ↦[oBlkSet c s 0]{fullShare} o d) ∗ (oLoc d ↦[oBlkSet c s 1]{fullShare} o d)
    ∗ (oLoc d ↦[oBlkSet c s 2]{fullShare} o d) ∗ (oLoc d ↦[oBlkSet c s 3]{fullShare} o d))

/-- The gathered rows of the table at the codes, as contents of the result array. -/
def gathBuf (tb : (d : Dev nD) → Buf (Elt F) (tLoc d)) (ix : (d : Dev nD) → Buf (Elt F) (iLoc d)) (d : Dev nD) : Buf (Elt F) (oLoc d) :=
  (gath (α := F .f32) (tb d) (ix d) : S16384x2x128.Idx → F .f32)

instance tilePts_storable (tb : (d : Dev nD) → Buf (Elt F) (tLoc d)) (ix : (d : Dev nD) → Buf (Elt F) (iLoc d)) (o : (d : Dev nD) → Buf (Elt F) (oLoc d))
    (d : Dev nD) (c : Fin 2) (s : Fin 16) : BI.Storable (upEmb : UEmb _ 𝕄) (tilePts tb ix o d c s) := by
  unfold tilePts; infer_instance

/-- A SparseCore is handed what its sixteen tiles are, and hands back the same with the blocks of
    the result holding the gathered rows. -/
def P (tb : (d : Dev nD) → Buf (Elt F) (tLoc d)) (ix : (d : Dev nD) → Buf (Elt F) (iLoc d)) (o : (d : Dev nD) → Buf (Elt F) (oLoc d)) :
    (K (F := F)).Pay (nD := nD) (Val := Elt F) (Name := ℕ) (U := UU) where
  st := fun q d c => match q with | 0 => bigSep Finset.univ fun s : Fin 16 => tilePts tb ix o d c s
  dn := fun q d c => match q with | 0 => bigSep Finset.univ fun s : Fin 16 => tilePts tb ix (gathBuf tb ix) d c s
  go := fun q d c s => match q with | 0 => tilePts tb ix o d c s
  td := fun q d c s => match q with | 0 => tilePts tb ix (gathBuf tb ix) d c s
  x := fun _ _ => iprop(emp)

variable (tb : (d : Dev nD) → Buf (Elt F) (tLoc d)) (ix : (d : Dev nD) → Buf (Elt F) (iLoc d)) (o : (d : Dev nD) → Buf (Elt F) (oLoc d))

instance P_storable : (P tb ix o).IsStorable where
  st q d c := match q with
    | 0 => (inferInstance : BI.Storable (upEmb : UEmb _ 𝕄) (bigSep Finset.univ fun s : Fin 16 => tilePts tb ix o d c s))
  dn q d c := match q with
    | 0 => (inferInstance : BI.Storable (upEmb : UEmb _ 𝕄) (bigSep Finset.univ fun s : Fin 16 => tilePts tb ix (gathBuf tb ix) d c s))
  go q d c s := match q with | 0 => tilePts_storable tb ix o d c s
  td q d c s := match q with | 0 => tilePts_storable tb ix (gathBuf tb ix) d c s

/-- A SparseCore's tiles, whole, are what the SparseCore is handed. -/
theorem vecSplit : ∀ q d c, (P tb ix o).st q d c ⊢ |={Set.univ}=>
    iprop((bigSep Finset.univ fun s => (P tb ix o).go q d c s) ∗ ((bigSep Finset.univ fun s => (P tb ix o).td q d c s) -∗ (P tb ix o).dn q d c)) := by
  intro q d c
  match q with
  | 0 =>
    show (bigSep Finset.univ fun s : Fin 16 => tilePts tb ix o d c s) ⊢ |={Set.univ}=>
      iprop((bigSep Finset.univ fun s : Fin 16 => tilePts tb ix o d c s)
        ∗ ((bigSep Finset.univ fun s : Fin 16 => tilePts tb ix (gathBuf tb ix) d c s) -∗ bigSep Finset.univ fun s : Fin 16 => tilePts tb ix (gathBuf tb ix) d c s))
    iintro H
    imodintro
    isplitl [H]
    · iexact H
    · iintro H; iexact H

/-- The whole result array is its 128 blocks at once. -/
theorem oPts_blocks (d : Dev nD) (f : Buf (Elt F) (oLoc d)) :
    (oLoc d ↦{fullShare} f : sProp 𝕄)
      = bigSep Finset.univ fun c : Fin 2 => bigSep Finset.univ fun s : Fin 16 => bigSep Finset.univ fun r : Fin 4 => oLoc d ↦[oBlkSet c s r]{fullShare} f := by
  have hset : (Finset.univ : Finset S16384x2x128.Idx) = (Finset.univ : Finset (Fin 2 × Fin 16 × Fin 4)).biUnion fun k => oBlkSet k.1 k.2.1 k.2.2 := by
    refine Eq.symm (Finset.eq_univ_iff_forall.mpr fun i => ?_)
    obtain ⟨n, hn⟩ := Rect.exists_mem_part (s := S16384x2x128) (a₀ := 0) odiv i
    obtain ⟨k, rfl⟩ := blkNo_surjective n
    exact Finset.mem_biUnion.mpr ⟨k, Finset.mem_univ _, by
      show i ∈ ((View.whole main_v1_scv).slice (oBlk k.1 k.2.1 k.2.2)).set
      rw [View.set_slice_whole]; exact hn⟩
  have hd : ∀ k ∈ (Finset.univ : Finset (Fin 2 × Fin 16 × Fin 4)), ∀ k' ∈ (Finset.univ : Finset (Fin 2 × Fin 16 × Fin 4)), k ≠ k' →
      Disjoint (oBlkSet k.1 k.2.1 k.2.2) (oBlkSet k'.1 k'.2.1 k'.2.2) := by
    intro k _ k' _ h
    show Disjoint ((View.whole main_v1_scv).slice (oBlk k.1 k.2.1 k.2.2)).set ((View.whole main_v1_scv).slice (oBlk k'.1 k'.2.1 k'.2.2)).set
    rw [View.set_slice_whole, View.set_slice_whole]
    exact Rect.part_disjoint odiv fun e => h (blkNo_injective e)
  have h : (oLoc d ↦[(Finset.univ : Finset (Fin 2 × Fin 16 × Fin 4)).biUnion fun k => oBlkSet k.1 k.2.1 k.2.2]{fullShare} f : sProp 𝕄)
      = bigSep Finset.univ fun k : Fin 2 × Fin 16 × Fin 4 => oLoc d ↦[oBlkSet k.1 k.2.1 k.2.2]{fullShare} f :=
    pointsTo_biUnion (ℓ := oLoc d) Finset.univ (fun k : Fin 2 × Fin 16 × Fin 4 => oBlkSet k.1 k.2.1 k.2.2) hd
  rw [← hset] at h
  refine Eq.trans h ?_
  rw [bigSep_univ_prod]
  refine bigSep_congr fun c _ => ?_
  rw [bigSep_univ_prod]

/-- An array held whole is the tiles' thirty-two shares of it at once. -/
theorem pts_shares {ℓ : Loc nD τ sig} (f : Buf (Elt F) ℓ) :
    (ℓ ↦{fullShare} f : sProp 𝕄) = bigSep Finset.univ fun c : Fin 2 => bigSep Finset.univ fun s : Fin 16 => ℓ ↦{tq c s} f := by
  rw [pointsTo_piecesOf Finset.univ f (o := 32) (by decide) fullShare, bigSep_univ_equiv (finProdFinEquiv (m := 2) (n := 16)), bigSep_univ_prod]

/-- The three arrays whole are what all the tiles are handed. -/
theorem pts_tiles (d : Dev nD) :
    (iprop((tLoc d ↦{fullShare} tb d) ∗ (iLoc d ↦{fullShare} ix d) ∗ (oLoc d ↦{fullShare} o d)) : sProp 𝕄)
      = bigSep Finset.univ fun c : Fin 2 => bigSep Finset.univ fun s : Fin 16 => tilePts tb ix o d c s := by
  rw [pts_shares (tb d), pts_shares (ix d), oPts_blocks, ← bigSep_sep', ← bigSep_sep']
  refine bigSep_congr fun c _ => ?_
  rw [← bigSep_sep', ← bigSep_sep']
  refine bigSep_congr fun s _ => ?_
  unfold tilePts
  congr 2
  rw [bigSep_univ_succ, bigSep_univ_succ, bigSep_univ_succ]
  congr 3
  exact bigSep_univ_of_subsingleton (0 : Fin 1)

end Cert.Proof.Sc
-- ==== Proof.Sc.Chunk.lean ====
/-
  What one tile's task works on: its own names for the table, the codes, the result and its scratch,
  and what a gathered chunk holds: the table's rows that the chunk's codes name.
-/
module

public import proofs.«01_k».proof.Proof.Sc.Setup

@[expose] public section

noncomputable section

namespace Cert.Proof.Sc

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's own names -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
abbrev VT (d : Dev nD) (L : grid0.Coords) : Thread nD τ := V d (cV L) (jV L)

abbrev tV : Memref sig .scVector .hbm S1296x2x128 .f32 := Memref.whole main_v0_scv
abbrev iV : Memref sig .scVector .hbm S16384 .i32 := Memref.whole main_arg1_scv
abbrev oV : Memref sig .scVector .hbm S16384x2x128 .f32 := Memref.whole main_v1_scv

/-- The table whole as the task addresses it, chunk `r` of its codes, and chunk `r` of its rows. -/
abbrev tAll : Memref sig .scVector .hbm S1296x2x128 .f32 :=
  (tV).slice (Rect.unit (s := S1296x2x128) ![0, 0, 0] S1296x2x128.size inb_S1296x2x128_S1296x2x128_0_0_0) (fun _ => rfl)
abbrev iChunk (L : grid0.Coords) (r : Fin 4) : Memref sig .scVector .hbm S128 .i32 :=
  (iV).slice (Rect.unit (s := S16384) (k0_off1 L (BitVec.ofNat 32 (128 * r.val))) S128.size (k0_off1_inb L r)) (fun _ => rfl)
abbrev oRect (L : grid0.Coords) (r : Fin 4) : Rect S16384x2x128 :=
  Rect.unit (s := S16384x2x128) (k0_off2 L (BitVec.ofNat 32 (128 * r.val))) S128x2x128.size (k0_off2_inb L r)
abbrev oChunk (L : grid0.Coords) (r : Fin 4) : Memref sig .scVector .hbm S128x2x128 .f32 := (oV).slice (oRect L r) (fun _ => rfl)

theorem oRect_eq (L : grid0.Coords) (r : Fin 4) : oRect L r = oBlk (cL L) (jL L) r := by
  unfold oRect oBlk Rect.part Rect.block
  congr 1 <;> funext a
  · rw [k0_off2_eq]
    match a with
    | 0 => simp [Shape.partIx, Shape.partSize, blkNo]; omega
    | 1 => simp [Shape.partIx, Shape.partSize]
    | 2 => simp [Shape.partIx, Shape.partSize]
  · match a with
    | 0 => simp [Shape.partSize]
    | 1 => simp [Shape.partSize]
    | 2 => simp [Shape.partSize]

theorem set_oChunk (L : grid0.Coords) (r : Fin 4) : (oChunk L r).view.set = oBlkSet (cL L) (jL L) r := by
  show ((oV).view.slice (oRect L r)).set = ((oV).view.slice (oBlk (cL L) (jL L) r)).set
  exact oRect_eq L r ▸ rfl

variable (d : Dev nD) (L : grid0.Coords)

theorem pts_oChunk (r : Fin 4) (f : Buf (Elt F) (oLoc d)) :
    ((oChunk L r).view.loc (VT d L) ↦[(oChunk L r).view.set]{fullShare} f : sProp 𝕄) = oLoc d ↦[oBlkSet (cL L) (jL L) r]{fullShare} f := by
  rw [set_oChunk]

/-! ## The tile's scratch buffers and its eight transfer cells -/

abbrev csem (k : Fin 8) : DmaSem sig := k
abbrev cell (k : Fin 8) : GSem nD τ sig := (VT d L, .dma (csem k))
abbrev sref (k : Fin 4) : Ref sig .scVector := ⟨.vmem, k, rfl⟩

/-- The tile's cells at zero: the eight the task waits on, one by one, and the rest. -/
theorem ownSems0_V :
    (ownSems0 (VT d L) : sProp 𝕄)
      = iprop((semVal (cell d L 0) 0 ∗ semVal (cell d L 1) 0 ∗ semVal (cell d L 2) 0 ∗ semVal (cell d L 3) 0
            ∗ semVal (cell d L 4) 0 ∗ semVal (cell d L 5) 0 ∗ semVal (cell d L 6) 0 ∗ semVal (cell d L 7) 0)
          ∗ bigSep ((ownCells (VT d L)) \ Finset.univ.image (cell d L)) fun g => semVal g 0) := by
  unfold SparseCore.Cfg.ownSems0
  rw [SparseCore.bigSep_sdiff_split' (t := Finset.univ.image (cell d L))
      (Finset.image_subset_iff.mpr fun k _ =>
        mem_ownCells.mpr ⟨rfl, (show ∀ s : DmaSem sig, (SemLoc.dma s : SemLoc sig).isScoped .scVector = true by decide) _⟩),
    SparseCore.bigSep_image_of_injOn (fun a _ b _ h => by
      have := congrArg (fun g : GSem nD τ sig => g.2) h
      simpa only [SemLoc.dma.injEq] using this)]
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The tile's buffers: its four scratch buffers, one by one, and the rest. -/
theorem ownBufs_V :
    (ownBufs (VT d L) : sProp 𝕄)
      = iprop(((∃ f, (VT d L).loc cc0_scratch0 ↦{fullShare} f) ∗ (∃ f, (VT d L).loc cc0_scratch1 ↦{fullShare} f)
            ∗ (∃ f, (VT d L).loc cc0_scratch2 ↦{fullShare} f) ∗ (∃ f, (VT d L).loc cc0_scratch3 ↦{fullShare} f))
          ∗ bigSep ((ownRefs (τ := τ) (.scVector (cV L) (jV L))) \ Finset.univ.image fun k => (Proc.scVector (cV L) (jV L)).devRef (sref k))
              fun b => iprop(∃ f, ((d, b) : Loc nD τ sig) ↦{fullShare} f)) := by
  unfold SparseCore.Cfg.ownBufs
  refine (SparseCore.bigSep_sdiff_split' (t := Finset.univ.image fun k => (Proc.scVector (cV L) (jV L)).devRef (sref k))
      (Finset.image_subset_iff.mpr fun k _ =>
        SparseCore.Cfg.mem_ownRefs_of_owner (p := Proc.scVector (cV L) (jV L)) (b := (Proc.scVector (cV L) (jV L)).devRef (sref k)) rfl)).trans ?_
  rw [SparseCore.bigSep_image_of_injOn (fun a _ b _ h =>
      (show ∀ a b : Fin 4, sref a = sref b → a = b by decide) a b (Proc.devRef_injective _ h)),
    show (Finset.univ : Finset (Fin 4)) = {0, 1, 2, 3} by decide,
    SparseCore.bigSep_insert' (by decide), SparseCore.bigSep_insert' (by decide), SparseCore.bigSep_insert' (by decide), bigSep_singleton]

variable [FloatOps F]
variable (tb : (d : Dev nD) → Buf (Elt F) (tLoc d)) (ix : (d : Dev nD) → Buf (Elt F) (iLoc d)) (o : (d : Dev nD) → Buf (Elt F) (oLoc d))

/-- Every code names a row of the table. -/
def InRows : Prop := ∀ (d : Dev nD) (j : S16384.Idx), (ix d j : BitVec 32).toNat < 1296

/-- The codes of a chunk, as the gather reads them from the first index buffer once they are copied there, name rows. -/
theorem inb0 (h : InRows ix) (r : Fin 4) (p : S128.Idx → BitVec 32) (hp : p = (iChunk L r).view.read (Elt F) (ix d))
    (f : Buf (Elt F) ((VT d L).loc cc0_scratch0)) :
    ∀ x, ((Memref.whole cc0_scratch0 : Memref sig .scVector .vmem S128 .i32).view.read (Elt F)
      (View.write (Elt F) (Memref.whole cc0_scratch0 : Memref sig .scVector .vmem S128 .i32).view f p Finset.univ) x).toNat
        < S1296x2x128.size gathers_S1296x2x128_S128x2x128.axis := by
  subst hp; intro x
  rw [View.write_whole_univ]
  simp only [Memref.view_whole, View.read_whole]
  exact h d _

/-- The same of the second index buffer. -/
theorem inb1 (h : InRows ix) (r : Fin 4) (p : S128.Idx → BitVec 32) (hp : p = (iChunk L r).view.read (Elt F) (ix d))
    (f : Buf (Elt F) ((VT d L).loc cc0_scratch1)) :
    ∀ x, ((Memref.whole cc0_scratch1 : Memref sig .scVector .vmem S128 .i32).view.read (Elt F)
      (View.write (Elt F) (Memref.whole cc0_scratch1 : Memref sig .scVector .vmem S128 .i32).view f p Finset.univ) x).toNat
        < S1296x2x128.size gathers_S1296x2x128_S128x2x128.axis := by
  subst hp; intro x
  rw [View.write_whole_univ]
  simp only [Memref.view_whole, View.read_whole]
  exact h d _

/-! ## What a chunk's rows are -/

theorem unit_row (k : Fin (S128.numel)) : (S128.rowMajor.symm k 0).val = k.val := by
  have h : (S128.rowMajor (S128.rowMajor.symm k)).val = k.val := by rw [Equiv.apply_symm_apply]
  rw [← h]
  show _ = (Shape.rowMajorPi S128.size (S128.rowMajor.symm k)).val
  rw [Shape.rowMajorPi_succ_val]
  simp [Shape.rowMajorPi, Shape.rankPi]

/-- The rows the gather takes for chunk `r` are the table's rows named by the chunk's codes: what
    the result array is to hold at the chunk's block. -/
theorem gather_chunk (h : InRows ix) (r : Fin 4) (w : S128.Idx → BitVec 32) (hw : w = (iChunk L r).view.read (Elt F) (ix d))
    (hn : S128.numel = S128x2x128.size gathers_S1296x2x128_S128x2x128.axis')
    (hin : ∀ x, (w x).toNat < S1296x2x128.size gathers_S1296x2x128_S128x2x128.axis) :
    SparseCore.gatherPayload (F := F) (e := .f32) gathers_S1296x2x128_S128x2x128 ((tAll).view.read (Elt F) (tb d)) (SparseCore.rows (F := F) w hn hin)
      = (oChunk L r).view.read (Elt F) (gathBuf tb ix d) := by
  subst hw
  funext y
  rw [show (oChunk L r).view.read (Elt F) (gathBuf tb ix d) y = gathBuf tb ix d ((oChunk L r).view.emb y) from (View.read_apply _ _).trans (cast_eq _ _)]
  show (tAll).view.read (Elt F) (tb d) (gathers_S1296x2x128_S128x2x128.idx _ y) = _
  rw [show ∀ z, (tAll).view.read (Elt F) (tb d) z = tb d ((tAll).view.emb z) from fun z => (View.read_apply _ _).trans (cast_eq _ _)]
  show tb d _ = tb d _
  congr 1
  funext a
  apply Fin.ext
  have h0 : k0_off2 L (BitVec.ofNat 32 (128 * r.val)) 0 = k0_off1 L (BitVec.ofNat 32 (128 * r.val)) 0 := by
    rw [k0_off2_eq, k0_off1_eq]; rfl
  match a with
  | 0 =>
    have e : ((iChunk L r).view.emb (S128.rowMajor.symm ((y 0).cast hn.symm)) : S16384.Idx) = codeIx (((oChunk L r).view.emb y : S16384x2x128.Idx) 0) := by
      funext a
      match a with
      | 0 =>
        apply Fin.ext
        show k0_off1 L (BitVec.ofNat 32 (128 * r.val)) 0 + 1 * (S128.rowMajor.symm ((y 0).cast hn.symm) 0).val = k0_off2 L (BitVec.ofNat 32 (128 * r.val)) 0 + 1 * (y 0).val
        rw [unit_row, h0]; rfl
    change 0 + 1 * ((iChunk L r).view.read (Elt F) (ix d) (S128.rowMajor.symm ((y 0).cast hn.symm))).toNat
      = (ix d (codeIx (((oChunk L r).view.emb y : S16384x2x128.Idx) 0))).toNat % 1296
    rw [show (iChunk L r).view.read (Elt F) (ix d) (S128.rowMajor.symm ((y 0).cast hn.symm)) = ix d ((iChunk L r).view.emb (S128.rowMajor.symm ((y 0).cast hn.symm)))
      from (View.read_apply _ _).trans (cast_eq _ _), e, Nat.mod_eq_of_lt (h d _)]
    omega
  | 1 =>
    show 0 + 1 * (y 1).val = k0_off2 L (BitVec.ofNat 32 (128 * r.val)) 1 + 1 * (y 1).val
    rw [k0_off2_eq]; rfl
  | 2 =>
    show 0 + 1 * (y 2).val = k0_off2 L (BitVec.ofNat 32 (128 * r.val)) 2 + 1 * (y 2).val
    rw [k0_off2_eq]; rfl

/-- A buffer written whole last reads as what was written last. -/
theorem read_last {κ : Kind} {sp : Space} {s : Shape} {e : EltTy} (v : View sig κ sp s e) (f : v.ty.Contents (Elt F)) (p : s.Idx → Elt F e)
    (l : List (View.Piece (Elt F) s e)) : v.read (Elt F) (v.writes (Elt F) f (⟨Rect.whole s, p⟩ :: l)) = p := by
  funext y
  have h := View.read_writes_cons_emb v f (Rect.whole s) p l y
  rwa [Rect.emb_whole_apply] at h

/-- A block of the result written whole with the rows of `g` there holds `g` there. -/
theorem writes_chunk (r : Fin 4) (f g : Buf (Elt F) (oLoc d)) (p : S128x2x128.Idx → F .f32) (hp : p = (oChunk L r).view.read (Elt F) g) :
    ((oChunk L r).view.loc (VT d L) ↦[(oChunk L r).view.set]{fullShare} (oChunk L r).view.writes (Elt F) f [⟨Rect.whole S128x2x128, p⟩] : sProp 𝕄)
      = (oChunk L r).view.loc (VT d L) ↦[(oChunk L r).view.set]{fullShare} g := by
  refine pointsTo_congr fun i hi => ?_
  obtain ⟨y, -, rfl⟩ := Finset.mem_map.mp hi
  have e : (oChunk L r).view.read (Elt F) ((oChunk L r).view.writes (Elt F) f [⟨Rect.whole S128x2x128, p⟩]) y = (oChunk L r).view.read (Elt F) g y :=
    congrFun ((View.read_writes_whole (Val := Elt F) (oChunk L r).view f p).trans hp) y
  exact ((View.read_apply _ _).trans (cast_eq _ _)).symm.trans (e.trans ((View.read_apply _ _).trans (cast_eq _ _)))

end Cert.Proof.Sc
-- ==== Proof.Sc.Tile.lean ====
/-
  One tile's task: four chunks of 128 codes, each chunk's codes copied in, the rows they name
  gathered out of the table, and the rows copied out to the chunk's block of the result. The task is
  run once, at a symbolic tile, with what the blocks hold at the end stated exactly.
-/
module

public import proofs.«01_k».proof.Proof.Sc.Chunk

@[expose] public section

noncomputable section

namespace Cert.Proof.Sc

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable [FloatOps F]
variable (tb : (d : Dev nD) → Buf (Elt F) (tLoc d)) (ix : (d : Dev nD) → Buf (Elt F) (iLoc d)) (o : (d : Dev nD) → Buf (Elt F) (oLoc d))

set_option maxHeartbeats 4000000 in
theorem tile_body (hF : (K (F := F)).Facts) (h : InRows ix) (O : CellTallies nD τ sig (HIx 1)) (W : Waits sig (HIx 1)) (hO : ∀ g, O g none = 0) :
    iprop(levAts (K (F := F)).L (K (F := F)).lev ∗ emp
        ∗ tilePts tb ix o d (cL L) (jL L)
        ∗ scopedBufs (VT d L) ∗ scopedSems0 (VT d L) ∗ owes (VT d L) O W)
      ⊢ wp frame (wpE (defs₀ (F := F)) 𝒱₀ (VT d L) none) Set.univ
          (cc0_gather_k L (Memref.whole main_v0_scv) (Memref.isWhole_whole _) (Memref.whole main_arg1_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scoped0 cc0_scoped1 cc0_scoped2 cc0_scoped3)
          fun _ => iprop(tilePts tb ix (gathBuf tb ix) d (cL L) (jL L)
            ∗ scopedBufs (VT d L) ∗ scopedSems0 (VT d L)
            ∗ ∃ W', ⌜∀ p ∈ W', p ∈ W ∨ p.2 = none⌝ ∗ owes (VT d L) O W') := by
  simp only [cc0_gather_k_eq_skeleton, k0_part1_eq_skeleton, k0_part2_eq_skeleton]; unfold cc0_gather_k_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  unfold tilePts
  rw [← pts_oChunk (F := F) d L 0, ← pts_oChunk (F := F) d L 1, ← pts_oChunk (F := F) d L 2, ← pts_oChunk (F := F) d L 3,
    ← pts_oChunk (F := F) d L 0, ← pts_oChunk (F := F) d L 1, ← pts_oChunk (F := F) d L 2, ← pts_oChunk (F := F) d L 3]
  iintro ⟨#Hlv, -, ⟨Ht, Hi, Ho0, Ho1, Ho2, Ho3⟩, ⟨⟨⟨%f0, H0⟩, ⟨%f1, H1⟩, ⟨%f2, H2⟩, ⟨%f3, H3⟩⟩, Hbufs⟩, ⟨⟨Hc0, Hc1, Hc2, Hc3, Hc4, Hc5, Hc6, Hc7⟩, Hsems⟩, HO⟩
  ihave Hmw := (show levAts (K (F := F)).L (K (F := F)).lev ⊢ Transfers.MayWaits (VT d L) (default : HIx 1) O from
    (K (F := F)).mayWaits_none (thr := VT d L) hO) $$ Hlv
  ihave Ht := (Entails.of_eq (show (tLoc d ↦{tq (cL L) (jL L)} tb d : sProp 𝕄) = (Memref.whole main_v0_scv : Memref sig .scVector .hbm S1296x2x128 .f32).view.loc (VT d L) ↦{tq (cL L) (jL L)} tb d from rfl)) $$ Ht
  ihave Hi := (Entails.of_eq (show (iLoc d ↦{tq (cL L) (jL L)} ix d : sProp 𝕄) = (Memref.whole main_arg1_scv : Memref sig .scVector .hbm S16384 .i32).view.loc (VT d L) ↦{tq (cL L) (jL L)} ix d from rfl)) $$ Hi
  ihave H0 := (Entails.of_eq (show ((VT d L).loc cc0_scratch0 ↦{fullShare} f0 : sProp 𝕄) = (Memref.whole cc0_scratch0 : Memref sig .scVector .vmem S128 .i32).view.loc (VT d L) ↦{fullShare} f0 from rfl)) $$ H0
  ihave H1 := (Entails.of_eq (show ((VT d L).loc cc0_scratch1 ↦{fullShare} f1 : sProp 𝕄) = (Memref.whole cc0_scratch1 : Memref sig .scVector .vmem S128 .i32).view.loc (VT d L) ↦{fullShare} f1 from rfl)) $$ H1
  ihave H2 := (Entails.of_eq (show ((VT d L).loc cc0_scratch2 ↦{fullShare} f2 : sProp 𝕄) = (Memref.whole cc0_scratch2 : Memref sig .scVector .vmem S128x2x128 .f32).view.loc (VT d L) ↦{fullShare} f2 from rfl)) $$ H2
  ihave H3 := (Entails.of_eq (show ((VT d L).loc cc0_scratch3 ↦{fullShare} f3 : sProp 𝕄) = (Memref.whole cc0_scratch3 : Memref sig .scVector .vmem S128x2x128 .f32).view.loc (VT d L) ↦{fullShare} f3 from rfl)) $$ H3
  sl_exec
  have hin0 := inb0 d L ix h 0 (tile_body.sl.dma0 d L ix) rfl
  sl_exec
  have hin1 := inb1 d L ix h 1 (tile_body.sl.dma0_2 d L ix) rfl
  sl_exec
  have hin2 := inb0 d L ix h 2 (tile_body.sl.dma0_4 d L ix) rfl
  sl_exec
  have hin3 := inb1 d L ix h 3 (tile_body.sl.dma0_6 d L ix) rfl
  sl_exec
  sl_step
  -- what each chunk's write-back carries
  have e0 : tile_body.sl.dma0_1 d L tb ix f0 f2 hin0 = (oChunk L 0).view.read (Elt F) (gathBuf tb ix d) := by
    unfold tile_body.sl.dma0_1 tile_body.sl.gather0
    refine (read_last _ _ _ _).trans (gather_chunk d L tb ix h 0 _ ?_ _ _)
    rw [View.write_whole_univ]; rfl
  have e1 : tile_body.sl.dma0_3 d L tb ix f1 f3 hin1 = (oChunk L 1).view.read (Elt F) (gathBuf tb ix d) := by
    unfold tile_body.sl.dma0_3 tile_body.sl.gather0_1
    refine (read_last _ _ _ _).trans (gather_chunk d L tb ix h 1 _ ?_ _ _)
    rw [View.write_whole_univ]; rfl
  have e2 : tile_body.sl.dma0_5 d L tb ix f0 f2 hin0 hin2 = (oChunk L 2).view.read (Elt F) (gathBuf tb ix d) := by
    unfold tile_body.sl.dma0_5 tile_body.sl.gather0_2
    refine (read_last _ _ _ _).trans (gather_chunk d L tb ix h 2 _ ?_ _ _)
    rw [View.write_whole_univ]; rfl
  have e3 : tile_body.sl.dma0_7 d L tb ix f1 f3 hin1 hin3 = (oChunk L 3).view.read (Elt F) (gathBuf tb ix d) := by
    unfold tile_body.sl.dma0_7 tile_body.sl.gather0_3
    refine (read_last _ _ _ _).trans (gather_chunk d L tb ix h 3 _ ?_ _ _)
    rw [View.write_whole_univ]; rfl
  ihave Ho0 := (Entails.of_eq (writes_chunk d L 0 _ _ _ e0)) $$ Ho0
  ihave Ho1 := (Entails.of_eq (writes_chunk d L 1 _ _ _ e1)) $$ Ho1
  ihave Ho2 := (Entails.of_eq (writes_chunk d L 2 _ _ _ e2)) $$ Ho2
  ihave Ho3 := (Entails.of_eq (writes_chunk d L 3 _ _ _ e3)) $$ Ho3
  isplitl [Ht Hi Ho0 Ho1 Ho2 Ho3]
  · isplitl [Ht]; · iexact Ht
    isplitl [Hi]; · iexact Hi
    isplitl [Ho0]; · iexact Ho0
    isplitl [Ho1]; · iexact Ho1
    isplitl [Ho2]; · iexact Ho2
    iexact Ho3
  isplitl [H0 H1 H2 H3 Hbufs]
  · isplitr [Hbufs]
    · isplitl [H0]; · iexists _; iexact H0
      isplitl [H1]; · iexists _; iexact H1
      isplitl [H2]; · iexists _; iexact H2
      iexists _; iexact H3
    · iexact Hbufs
  isplitl [Hc0 Hc1 Hc2 Hc3 Hc4 Hc5 Hc6 Hc7 Hsems]
  · isplitr [Hsems]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      iexact Hc7
    · iexact Hsems
  iexists _; isplitr
  swap; · iexact HO
  ipureintro; intro p hp
  simp only [Finset.mem_insert] at hp
  rcases hp with hp | hp | hp | hp | hp | hp | hp | hp | hp | hp | hp | hp | hp <;> first | exact .inr (hp ▸ rfl) | exact .inl hp

end Cert.Proof.Sc
-- ==== Proof.Sc.Launch.lean ====
/-
  The gather's run: what one tile does, for every tile; what the SparseCores' launch is dealt and
  splits into; and @main on the TensorCore — the table reshaped, the gather, the rows reshaped —
  followed through the contents of all its arrays. The end of the run is each array at the contents
  `VEnd` names, for any float values.
-/
module

public import proofs.«01_k».proof.Proof.Sc.Tile

@[expose] public section

noncomputable section

namespace Cert.Proof.Sc

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type}

local notation "𝕄" => MT nD τ sig (HIx 1) (Elt F) ℕ UU ℕ

variable [FloatOps F]
variable (tb : (d : Dev nD) → Buf (Elt F) (tLoc d)) (ix : (d : Dev nD) → Buf (Elt F) (iLoc d)) (o : (d : Dev nD) → Buf (Elt F) (oLoc d))

/-! ## One tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scoped0 cc0_scoped1 cc0_scoped2 cc0_scoped3) ⟨⟩ c s := rfl

/-- Waits a tile adds are its own, or its call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (h : InRows ix) : (K (F := F)).TileObl (D (F := F)) 𝒱 (P tb ix o) v₀ 0 := by
  intro d c i O W hO _ _
  simp only [show (P tb ix o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ()))  _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) tb ix o facts h O W hO).trans (wp_mono frame _ _ fun _ => obl_post)

/-! ## The launch's ghost state -/

theorem bigSep_emp' {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tb ix o).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) tb ix o).x q thr) = bigSep Finset.univ fun _ => iprop(emp) from
    bigSep_congr fun _ _ => bigSep_univ_of_subsingleton (0 : Fin 1), bigSep_emp']
  iempintro

/-! ## The arrays of @main, all held together -/

/-- The arrays of @main. -/
def arrs : Finset (DevRef τ sig) :=
  (Finset.univ.filter fun b : Ref sig .tc => ¬ b.isScoped).map ⟨Proc.devRef (τ := τ) .tc, Proc.devRef_injective _⟩

theorem mem_arrs (b : Ref sig .tc) (h : b.isScoped = false) : Proc.devRef (τ := τ) .tc b ∈ arrs :=
  Finset.mem_map.mpr ⟨b, Finset.mem_filter.mpr ⟨Finset.mem_univ _, by simp [h]⟩, rfl⟩

theorem unscopedBufs_held (m : (ℓ : Loc nD τ sig) → Buf (Elt F) ℓ) (d : Dev nD) :
    (unscopedBufs d (fun b => m ((d.tc : Thread nD τ).loc b)) : sProp 𝕄) = held (d.tc : Thread nD τ) arrs (launchContents m d) := by
  unfold unscopedBufs held arrs; rw [bigSep_map]; rfl

/-- The three arrays of the gather. -/
def trio : Finset (DevRef τ sig) := {Proc.devRef .tc main_v0, Proc.devRef .tc main_arg1, Proc.devRef .tc main_v1}

theorem trio_sub : trio ⊆ arrs := by
  intro b hb
  simp only [trio, Finset.mem_insert, Finset.mem_singleton] at hb
  rcases hb with rfl | rfl | rfl <;> exact mem_arrs _ rfl

theorem held_trio (d : Dev nD) (V : Valuation τ sig (Elt F)) :
    (held (d.tc : Thread nD τ) trio V : sProp 𝕄)
      = iprop((tLoc d ↦{fullShare} V (Proc.devRef .tc main_v0)) ∗ (iLoc d ↦{fullShare} V (Proc.devRef .tc main_arg1)) ∗ oLoc d ↦{fullShare} V (Proc.devRef .tc main_v1)) := by
  unfold held trio
  rw [SparseCore.bigSep_insert' (by decide), SparseCore.bigSep_insert' (by decide), bigSep_singleton]

/-! ## @main -/

section Main

variable (m : (ℓ : Loc nD τ sig) → Buf (Elt F) ℓ) (ρ : Dev nD → PrngReg)

/-- The table reshaped. -/
abbrev opT : HloOp τ sig (Elt F) := StableHlo.reshape main_arg0 main_v0 (rfl : (.f32 : EltTy) = .f32) shapeCasts_S1296x256_S1296x2x128
/-- The rows reshaped. -/
abbrev opR : HloOp τ sig (Elt F) := StableHlo.reshape main_v1 main_v2 (rfl : (.f32 : EltTy) = .f32) shapeCasts_S16384x2x128_S16384x256

/-- The arrays when the gather starts. -/
def VIn (d : Dev nD) : Valuation τ sig (Elt F) := opT.result (launchContents m d)
def tbIn (d : Dev nD) : Buf (Elt F) (tLoc d) := VIn m d (Proc.devRef .tc main_v0)
def ixIn (d : Dev nD) : Buf (Elt F) (iLoc d) := VIn m d (Proc.devRef .tc main_arg1)
def oIn (d : Dev nD) : Buf (Elt F) (oLoc d) := VIn m d (Proc.devRef .tc main_v1)
/-- The arrays when the gather has run. -/
def VOut (d : Dev nD) : Valuation τ sig (Elt F) := Function.update (VIn m d) (Proc.devRef .tc main_v1) (gathBuf (tbIn m) (ixIn m) d)
/-- The arrays at the end. -/
def VEnd (d : Dev nD) : Valuation τ sig (Elt F) := opR.result (VOut m d)

theorem held_in (d : Dev nD) : (held (d.tc : Thread nD τ) arrs (VIn m d) : sProp 𝕄)
    = iprop(((tLoc d ↦{fullShare} tbIn m d) ∗ (iLoc d ↦{fullShare} ixIn m d) ∗ oLoc d ↦{fullShare} oIn m d)
        ∗ held (d.tc : Thread nD τ) (arrs \ trio) (VIn m d)) := by
  rw [held_sub_split _ trio_sub, held_trio]; rfl

theorem held_out (d : Dev nD) : (held (d.tc : Thread nD τ) arrs (VOut m d) : sProp 𝕄)
    = iprop(((tLoc d ↦{fullShare} tbIn m d) ∗ (iLoc d ↦{fullShare} ixIn m d) ∗ oLoc d ↦{fullShare} gathBuf (tbIn m) (ixIn m) d)
        ∗ held (d.tc : Thread nD τ) (arrs \ trio) (VIn m d)) := by
  rw [held_sub_split _ trio_sub, held_trio]
  have h0 : VOut m d (Proc.devRef .tc main_v0) = tbIn m d := Function.update_of_ne (by decide) _ _
  have h1 : VOut m d (Proc.devRef .tc main_arg1) = ixIn m d := Function.update_of_ne (by decide) _ _
  have h2 : VOut m d (Proc.devRef .tc main_v1) = gathBuf (tbIn m) (ixIn m) d := Function.update_self _ _ _
  have h3 : (held (d.tc : Thread nD τ) (arrs \ trio) (VOut m d) : sProp 𝕄) = held (d.tc : Thread nD τ) (arrs \ trio) (VIn m d) :=
    held_congr _ fun b hb => Function.update_of_ne (fun e => (Finset.mem_sdiff.mp hb).2 (by rw [e]; decide)) _ _
  rw [h0, h1, h2, h3]

/-- Every array at its contents at the end. -/
abbrev FIN (d : Dev nD) : sProp 𝕄 := held (d.tc : Thread nD τ) arrs (VEnd m d)

theorem st0_eq (d : Dev nD) : (bigSep Finset.univ fun c : Fin ((K (F := F)).nCore 0) => (P tb ix o).st 0 d c)
    = (iprop((tLoc d ↦{fullShare} tb d) ∗ (iLoc d ↦{fullShare} ix d) ∗ (oLoc d ↦{fullShare} o d)) : sProp 𝕄) :=
  (pts_tiles tb ix o d).symm
theorem dn0_eq (d : Dev nD) : (bigSep Finset.univ fun c : Fin ((K (F := F)).nCore 0) => (P tb ix o).dn 0 d c)
    = (iprop((tLoc d ↦{fullShare} tb d) ∗ (iLoc d ↦{fullShare} ix d) ∗ (oLoc d ↦{fullShare} gathBuf tb ix d)) : sProp 𝕄) :=
  (pts_tiles tb ix (gathBuf tb ix) d).symm

theorem hmain (κ : GSem nD τ sig → ℕ) (d : Dev nD) :
    iprop((K (F := F)).ctx EH (P (tbIn m) (ixIn m) (oIn m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_held]
  simp only [main, wp_bind, wp_pure]
  iintro ⟨#Hctx, Hst, ⟨Hb, HA, Hts, -⟩, -⟩
  iapply (wp_hlo_within 𝒱 (d.tc : Thread nD τ) none Set.univ (op := opT) (S := arrs) (by
    intro b hb; rw [reshape_bufs] at hb; simp only [Finset.mem_insert, Finset.mem_singleton] at hb
    rcases hb with rfl | rfl <;> exact mem_arrs _ rfl)) $$ [Hb HA]
  · isplitl [Hb]; · iexact Hb
    iexact HA
  iintro ⟨Hb, HA⟩
  rw [wp_ret]; imodintro
  ihave HA := (show (held (d.tc : Thread nD τ) arrs (opT.result (launchContents m d)) : sProp 𝕄) ⊢ _ from Entails.of_eq (held_in m d)) $$ HA
  icases HA with ⟨H3, HR⟩
  iapply ((K (F := F)).wp_run (D (F := F)) 𝒱 (EH := EH) (P := P (tbIn m) (ixIn m) (oIn m)) κ d 0) $$ [Hst H3 Hb Hts HR]
  isplitr; · iexact Hctx
  isplitl [Hst]; · iexact Hst
  isplitl [H3]
  · rw [st0_eq]; iexact H3
  iintro ⟨Hst, Hdn⟩
  ihave H3 := (Entails.of_eq (dn0_eq (tbIn m) (ixIn m) (oIn m) d)) $$ Hdn
  ihave HA := (Entails.of_eq (held_out m d).symm) $$ [H3 HR]
  · isplitl [H3]; · iexact H3
    iexact HR
  iapply (wp_hlo_within 𝒱 (d.tc : Thread nD τ) none Set.univ (op := opR) (S := arrs) (by
    intro b hb; rw [reshape_bufs] at hb; simp only [Finset.mem_insert, Finset.mem_singleton] at hb
    rcases hb with rfl | rfl <;> exact mem_arrs _ rfl)) $$ [Hb HA]
  · isplitl [Hb]; · iexact Hb
    iexact HA
  iintro ⟨Hb, HA⟩
  rw [wp_ret]; imodintro
  imodintro
  unfold FIN VEnd
  isplitl [Hst]; · iexact Hst
  isplitl [HA]; · iexact HA
  isplitl [Hb]; · iexact Hb
  iexact Hts

def fq (d : Dev nD) (s' : Phys nD τ sig (Elt F)) : Prop := ∀ b ∈ arrs, s'.mem.mem ((d, b) : Loc nD τ sig) = VEnd m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) arrs) $$ [HSI H]
  · isplitl [HSI]; · iexact HSI
    iexact H
  ipureintro
  exact h

def QC : PUnit × MemSt nD τ sig (Elt F) → Prop := fun r => (∀ d : Dev nD, ∀ b ∈ arrs, r.2.mem ((d, b) : Loc nD τ sig) = VEnd m d b) ∧ r.2.sem = fun _ => 0

/-- THE RUN: with every code naming a row, every execution ends with each array at `VEnd`. -/
theorem run_main [∀ e, Nonempty (Elt F e)] (h : InRows (ixIn m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (tbIn m) (ixIn m) (oIn m)) (A := ∅) facts v₀
    (fun q hq => match q with | 0 => nomatch hq)
    (fun q _ => match q with | 0 => tileObl _ _ _ h)
    (fun q _ => match q with | 0 => SparseCore.Cfg.VecSplit.of_plain (vecSplit _ _ _ 0))
    m ρ main (fun _ => iprop(emp)) (FIN m) (u₀ (F := F)) (sep_elim_left.trans (hu₀ _ _ _)) (hmain m ρ) (fq m) (hfin m) (QC m) (fun _ h hz => ⟨h, hz⟩)

end Main

end Cert.Proof.Sc
-- ==== Proof.Values.Take.lean ====
/-
  `jnp.take` of rows, as it prints — a negative index wrapped, an index out of range masked to NaN,
  and the gather between them —, read at an entry where every index is in range: the entry of the
  row that the index names. Stated of the pieces, for any shapes of the indices.
-/
module

public import proofs.«01_k».proof.Defs
public import Idealize.ShloMosaic.Lib.ReduceAll
public import Idealize.ShloMosaic.Lib.WordCmp
public import Idealize.ShloMosaic.Lib.ValueIdxCore
public import Idealize.ShloMosaic.Lib.Routing.OpsPair
public import Idealize.ShloMosaic.Lib.Pipeline.Value

@[expose] public section

noncomputable section

namespace Cert.Proof

open Idealize.ShloMosaic Idealize.ShloMosaic.ValueIdx

/-- Entry `j` of the row that `c` names. (The remainder only makes it a row for every word.) -/
def takeRow {α : Type} (emb : (⟨2, ![1296, 256]⟩ : Shape).Idx → α) (c : BitVec 32) (j : Fin 256) : α :=
  emb (ix2 (⟨c.toNat % 1296, Nat.mod_lt _ (by decide)⟩ : Fin 1296) j)

theorem takeRow_of_lt {α : Type} (emb : (⟨2, ![1296, 256]⟩ : Shape).Idx → α) (c : BitVec 32) (h : c.toNat < 1296) (j : Fin 256) :
    takeRow emb c j = emb (ix2 (⟨c.toNat, h⟩ : Fin 1296) j) := by
  unfold takeRow; simp only [Nat.mod_eq_of_lt h]

/-- An index in range is not wrapped. -/
theorem wrap_in_range (c a : BitVec 32) (h : c.toNat < 1296) : Scalar.select (IntOp.cmpi .slt c 0#32) a c = c :=
  Routing.wrap_of_lt c a (Nat.lt_trans h (by decide))

/-- An index in range passes the mask's two comparisons. -/
theorem mask_in_range (c : BitVec 32) (h : c.toNat < 1296) : IntOp.andi (IntOp.cmpi .sge c 0#32) (IntOp.cmpi .sle c 1295#32) = 1#1 := by
  have e : c = BitVec.ofNat 32 c.toNat := by simp
  rw [WordCmp.cmpi_sge_zero, e, show (1295#32 : BitVec 32) = BitVec.ofNat 32 1295 from rfl,
    (WordCmp.cmpi_sle_ofNat_eq_one_iff (w := 32) (a := c.toNat) (b := 1295) (by omega) (by decide)).mpr (by omega)]
  rw [← e, decide_eq_true (by omega : c.toNat < 2 ^ (32 - 1))]; rfl

/-- A word that passes `0 ≤ c` and `c < 1296`, both signed, is below 1296. -/
theorem lt_of_range (c : BitVec 32) (h : IntOp.andi (IntOp.cmpi .sge c 0#32) (IntOp.cmpi .slt c 1296#32) = 1#1) : c.toNat < 1296 := by
  rw [show (1296#32 : BitVec 32) = BitVec.ofNat 32 1296 from rfl, WordCmp.andi_sge_zero_slt_ofNat (by decide)] at h
  by_contra hc
  rw [decide_eq_false hc] at h
  exact absurd h (by decide)

end Cert.Proof
-- ==== Proof.Values.MaskedTake.lean ====
/-
  The take of the gather's reference, read at an entry where every code is in range.
-/
module

public import proofs.«01_k».proof.Proof.Values.Take
public import proofs.«01_k».proof.Proof.Gen.GatherReferenceIdeal
public import Idealize.ShloMosaic.Lib.Routing.Ops

@[expose] public section

noncomputable section

namespace Cert.Proof

open Cert.GatherReferenceIdeal Cert.GatherReferenceIdeal.Gen
open Idealize.ShloMosaic Idealize.ShloMosaic.StableHlo Idealize.ShloMosaic.ValueIdx

/-- Codes in range are not wrapped. -/
theorem wrapped (c : IVec S16384 32) (h : ∀ k, (c k).toNat < 1296) :
    select (cmpi .slt c (broadcastInDim S16384 ![] bcast_S_S16384 (constantI S_ 32 0#32))) (addi c (broadcastInDim S16384 ![] bcast_S_S16384 (constantI S_ 32 1296#32))) c = c :=
  funext fun k => wrap_in_range (c k) _ (h k)

/-- The printed take at codes in range. -/
theorem masked_take {F : FTy → Type} [FloatOps F] (emb : FVec F S1296x256 .f32) (c : IVec S16384 32) (h : ∀ k, (c k).toNat < 1296) (n : Fin 16384) (j : Fin 256) :
    select (broadcastInDim S16384x256 ![0] bcast_S16384_S16384x256_0
        (Host.reduce IntOp.andi
          (andi (cmpi .sge (broadcastInDim S16384x1 ![0] bcast_S16384_S16384x1_0 c) (broadcastInDim S16384x1 ![] bcast_S_S16384x1 (constantI S_ 32 0#32)))
            (cmpi .sle (broadcastInDim S16384x1 ![0] bcast_S16384_S16384x1_0 c)
              (broadcastInDim S16384x1 ![0, 1] bcast_S1x1_S16384x1_0_1 (broadcastInDim S1x1 ![1] bcast_S1_S1x1_1 (constantI S1 32 1295#32)))))
          (constantI S_ 1 1#1) reducesTo_S16384x1_S16384_d1 h_S_))
      (Host.gather gather_S1296x256_S16384x1_S16384x256_1_0_n_n_0_1_1256 emb (broadcastInDim S16384x1 ![0] bcast_S16384_S16384x1_0 c))
      (broadcastInDim S16384x256 ![] bcast_S_S16384x256 (constant S_ .f32 0x7FC00000#32)) (ix2 n j)
      = emb (ix2 (⟨(c (ix1 n)).toNat, h _⟩ : Fin 1296) j) := by
  have hm : ∀ k, Host.reduce IntOp.andi
          (andi (cmpi .sge (broadcastInDim S16384x1 ![0] bcast_S16384_S16384x1_0 c) (broadcastInDim S16384x1 ![] bcast_S_S16384x1 (constantI S_ 32 0#32)))
            (cmpi .sle (broadcastInDim S16384x1 ![0] bcast_S16384_S16384x1_0 c)
              (broadcastInDim S16384x1 ![0, 1] bcast_S1x1_S16384x1_0_1 (broadcastInDim S1x1 ![1] bcast_S1_S1x1_1 (constantI S1 32 1295#32)))))
          (constantI S_ 1 1#1) reducesTo_S16384x1_S16384_d1 h_S_ k = 1#1 := fun k =>
    Host.reduce_andi_one _ _ _ _ k rfl fun i => mask_in_range _ (h _)
  show Scalar.select (Host.reduce IntOp.andi _ _ _ _ _) _ _ = _
  rw [hm]
  show Host.gather _ _ _ _ = _
  refine Routing.gather_row (nb := 1296) (B := 256) (n := 16384) gather_S1296x256_S16384x1_S16384x256_1_0_n_n_0_1_1256 rfl rfl rfl rfl rfl emb _ n j
    ⟨(c (ix1 n)).toNat, h _⟩ ?_ (by decide)
  show c _ = BitVec.ofNat 32 (c (ix1 n)).toNat
  rw [BitVec.ofNat_toNat, BitVec.setWidth_eq]
  congr 1
  funext a; match a with | 0 => rfl

end Cert.Proof
-- ==== Proof.Sc.Claims.lean ====
/-
  The claims of the gather taken by itself, from its run: the frames for both readings of floats,
  and the gathered rows against `jnp.take`, over the extended reals and word for word.
-/
module

public import proofs.«01_k».proof.Proof.Sc.Launch
public import proofs.«01_k».proof.Proof.Values.Take
public import proofs.«01_k».proof.Proof.Gen.Gather
public import proofs.«01_k».proof.Proof.Values.MaskedTake
public import proofs.«01_k».proof.Proof.Gen.GatherReference
public import proofs.«01_k».proof.Proof.Gen.GatherReferenceIdeal
public import proofs.«01_k».proof.Proof.Gen.GatherReferenceIdeal.Run
public import proofs.«01_k».proof.Proof.Gen.Pre_codes_name_rows

@[expose] public section

noncomputable section

namespace Cert.Proof.Sc

open Cert.GatherIdeal Cert.GatherIdeal.Gen
open Idealize.ShloMosaic Idealize.SL.Sem
open Idealize.ShloMosaic.StableHlo Idealize.ShloMosaic.ValueIdx

variable {F : FTy → Type} [FloatOps F]
variable (m : (ℓ : Loc nD τ sig) → Buf (Elt F) ℓ)

/-! ## The arrays at the end, by the launch's -/

theorem ixIn_eq (d : Dev nD) : ixIn m d = m ((d.tc : Thread nD τ).loc main_arg1) := by
  unfold ixIn VIn opT
  rw [reshape_result_ne' _ _ _ _ _ (by decide)]

theorem tbIn_eq (d : Dev nD) : tbIn m d = shapeCast S1296x2x128 (m ((d.tc : Thread nD τ).loc main_arg0)) shapeCasts_S1296x256_S1296x2x128 := by
  unfold tbIn VIn opT
  rw [reshape_result']; rfl

theorem VEnd_arg0 (d : Dev nD) : VEnd m d (Proc.devRef .tc main_arg0) = m ((d.tc : Thread nD τ).loc main_arg0) := by
  unfold VEnd opR
  rw [reshape_result_ne' _ _ _ _ _ (by decide)]
  unfold VOut
  rw [Function.update_of_ne (by decide)]
  unfold VIn opT
  rw [reshape_result_ne' _ _ _ _ _ (by decide)]

theorem VEnd_arg1 (d : Dev nD) : VEnd m d (Proc.devRef .tc main_arg1) = m ((d.tc : Thread nD τ).loc main_arg1) := by
  unfold VEnd opR
  rw [reshape_result_ne' _ _ _ _ _ (by decide)]
  unfold VOut
  rw [Function.update_of_ne (by decide)]
  exact ixIn_eq m d

theorem VEnd_v2 (d : Dev nD) : VEnd m d (Proc.devRef .tc main_v2) = shapeCast S16384x256 (gathBuf (tbIn m) (ixIn m) d) shapeCasts_S16384x2x128_S16384x256 := by
  unfold VEnd opR
  rw [reshape_result']
  unfold VOut
  rw [Function.update_self]; rfl

/-- A row of 256 as two of 128: entry `j` of the reshaped gather is entry `j` of the row that the code names. -/
theorem shapeCast_gath {α : Type} (emb : S1296x256.Idx → α) (ix : S16384.Idx → BitVec 32) (n : Fin 16384) (j : Fin 256) :
    shapeCast S16384x256 (gath (shapeCast S1296x2x128 emb shapeCasts_S1296x256_S1296x2x128) ix) shapeCasts_S16384x2x128_S16384x256 (ix2 n j)
      = takeRow emb (ix (ix1 n)) j := by
  have hj := j.isLt
  rw [shapeCast_apply (k := (ix3 n (⟨j.val / 128, by omega⟩ : Fin 2) (⟨j.val % 128, by omega⟩ : Fin 128) : S16384x2x128.Idx))
    (hk := by
      rw [Shape.rowMajor_val_three, Shape.rowMajor_val_two]
      show (n.val * 2 + j.val / 128) * 128 + j.val % 128 = n.val * 256 + j.val
      omega)]
  unfold gath takeRow
  rw [shapeCast_apply (k := (ix2 (⟨(ix (codeIx n)).toNat % 1296, Nat.mod_lt _ (by decide)⟩ : Fin 1296) j : S1296x256.Idx))
    (hk := by
      rw [Shape.rowMajor_val_three, Shape.rowMajor_val_two]
      show (ix (codeIx n)).toNat % 1296 * 256 + j.val = ((ix (codeIx n)).toNat % 1296 * 2 + j.val / 128) * 128 + j.val % 128
      omega)]
  have e : (codeIx n : S16384.Idx) = ix1 n := by
    funext a; match a with | 0 => rfl
  rw [e]

theorem tbIn_eq_gath (d : Dev nD) : gathBuf (tbIn m) (ixIn m) d
    = gath (shapeCast S1296x2x128 (m ((d.tc : Thread nD τ).loc main_arg0)) shapeCasts_S1296x256_S1296x2x128) (m ((d.tc : Thread nD τ).loc main_arg1)) := by
  unfold gathBuf; rw [tbIn_eq, ixIn_eq]

/-! ## The precondition -/

theorem inRows_of_pre (h : ∀ d : Dev nD, Cert.Pre_codes_name_rows.fn (F := F) (m ((d.tc : Thread nD τ).loc main_arg0)) (m ((d.tc : Thread nD τ).loc main_arg1)) = fun _ => 1#1) :
    InRows (ixIn m) := by
  intro d j
  have hs : Subsingleton S_.Idx := ⟨fun a b => funext fun k => k.elim0⟩
  have e := congrFun (h d) (fun k => k.elim0)
  have e' := Host.reduce_andi_all _ _ _ _ _ e j
  rw [ixIn_eq]
  exact lt_of_range _ e'

/-! ## The frames -/

theorem mem_of_QC {r : PUnit × MemSt nD τ sig (Elt F)} (h : QC m r) (d : Dev nD) (b : Ref sig .tc) (hb : b.isScoped = false) :
    r.2.mem ((d.tc : Thread nD τ).loc b) = VEnd m d (Proc.devRef .tc b) := h.1 d _ (mem_arrs b hb)

theorem frame_GatherIdeal : Cert.quiescent_GatherIdeal := fun m ρ hpre =>
  (θ_run Cert.GatherIdeal.defs _ _).mono
    (fun _ h => ⟨fun d => ⟨(mem_of_QC m h d main_arg0 rfl).trans (VEnd_arg0 m d), (mem_of_QC m h d main_arg1 rfl).trans (VEnd_arg1 m d)⟩, h.2⟩)
    (run_main (F := Ideal) m ρ (inRows_of_pre m hpre))

theorem frame_Gather : Cert.quiescent_Gather := fun m ρ hpre =>
  (θ_run Cert.GatherIdeal.defs _ _).mono
    (fun _ h => ⟨fun d => ⟨(mem_of_QC (F := Bits) m h d main_arg0 rfl).trans (VEnd_arg0 (F := Bits) m d), (mem_of_QC (F := Bits) m h d main_arg1 rfl).trans (VEnd_arg1 (F := Bits) m d)⟩, h.2⟩)
    (run_main (F := Bits) m ρ (inRows_of_pre (F := Bits) m hpre))

theorem frame_GatherReferenceIdeal : Cert.quiescent_GatherReferenceIdeal := by
  intro m ρ _
  exact (θ_run Cert.GatherReferenceIdeal.defs _ _).mono (fun r h => ⟨fun d => (h d).2, sem_eq_zero_of_no_sems (by decide) r.2⟩)
    (Cert.GatherReferenceIdeal.Value.run (F := Ideal) m ρ)

theorem frame_GatherReferenceIdeal_pre : Cert.quiescent_GatherReferenceIdeal_pre_codes_name_rows := fun m ρ _ => frame_GatherReferenceIdeal m ρ trivial

theorem frame_GatherReference : Cert.quiescent_GatherReference := fun m ρ _ =>
  (θ_run Cert.GatherReferenceIdeal.defs _ _).mono (fun r h => ⟨fun d => (h d).2, sem_eq_zero_of_no_sems (by decide) r.2⟩)
    (Cert.GatherReferenceIdeal.Value.run (F := Bits) m ρ)

/-! ## The value -/

/-- The result of the gather, for any float values: the printed take of the table at the codes. -/
theorem end_eq_take (hin : InRows (ixIn m)) (d : Dev nD) (x : FVec F S16384x256 .f32)
    (hx : ∀ h : (∀ k, (m ((d.tc : Thread nD τ).loc main_arg1) k : BitVec 32).toNat < 1296), ∀ (n : Fin 16384) (j : Fin 256),
      x (ix2 n j) = m ((d.tc : Thread nD τ).loc main_arg0) (ix2 (⟨(m ((d.tc : Thread nD τ).loc main_arg1) (ix1 n) : BitVec 32).toNat, h _⟩ : Fin 1296) j : S1296x256.Idx)) :
    x = VEnd m d (Proc.devRef .tc main_v2) := by
  have hc := hin d
  rw [ixIn_eq] at hc
  rw [VEnd_v2, tbIn_eq_gath m d]
  funext i
  obtain ⟨n, j, rfl⟩ : ∃ (n : Fin 16384) (j : Fin 256), i = ix2 n j := ⟨i 0, i 1, by funext a; match a with | 0 => rfl | 1 => rfl⟩
  exact (hx hc n j).trans ((takeRow_of_lt _ _ (hc _) _).symm.trans (shapeCast_gath _ _ n j).symm)

theorem algebraic_Gather : Cert.algebraic_GatherIdeal_GatherReferenceIdeal := by
  intro m g m' g' hpre hargs
  refine ⟨fun d => VEnd m d (Proc.devRef .tc main_v2), ?_, ?_⟩
  · exact (θ_run Cert.GatherIdeal.defs _ _).mono
      (fun _ h d => ⟨mem_of_QC m h d main_v2 rfl, (mem_of_QC m h d main_arg0 rfl).trans (VEnd_arg0 m d), (mem_of_QC m h d main_arg1 rfl).trans (VEnd_arg1 m d)⟩)
      (run_main (F := Ideal) m g (inRows_of_pre m hpre))
  · refine (θ_run Cert.GatherReferenceIdeal.defs _ _).mono (fun _ h d => ⟨(h d).1.trans ?_, (h d).2⟩) (Cert.GatherReferenceIdeal.Value.run m' g')
    obtain ⟨h0, h1⟩ := hargs d
    rw [h0, h1]
    refine end_eq_take m (inRows_of_pre m hpre) d _ fun h n j => ?_
    generalize m ((d.tc : Thread nD τ).loc main_arg0) = emb
    have hw := wrapped _ h
    generalize m ((d.tc : Thread nD τ).loc main_arg1) = c at h hw ⊢
    rw [hw]
    exact masked_take (F := Ideal) emb c h n j

/-- The same over words: the gather's rows are those of `jnp.take`, word for word. -/
theorem bitexact_Gather : Cert.bitexact_Gather_GatherReference := by
  intro m g m' g' hpre hargs
  refine ⟨fun d => VEnd (F := Bits) m d (Proc.devRef .tc main_v2), ?_, ?_⟩
  · exact (θ_run Cert.GatherIdeal.defs _ _).mono
      (fun _ h d => ⟨mem_of_QC (F := Bits) m h d main_v2 rfl, (mem_of_QC (F := Bits) m h d main_arg0 rfl).trans (VEnd_arg0 (F := Bits) m d),
        (mem_of_QC (F := Bits) m h d main_arg1 rfl).trans (VEnd_arg1 (F := Bits) m d)⟩)
      (run_main (F := Bits) m g (inRows_of_pre (F := Bits) m hpre))
  · refine (θ_run Cert.GatherReferenceIdeal.defs _ _).mono (fun _ h d => ⟨(h d).1.trans ?_, (h d).2⟩) (Cert.GatherReferenceIdeal.Value.run (F := Bits) m' g')
    obtain ⟨h0, h1⟩ := hargs d
    rw [h0, h1]
    refine end_eq_take (F := Bits) m (inRows_of_pre (F := Bits) m hpre) d _ fun h n j => ?_
    generalize m ((d.tc : Thread nD τ).loc main_arg0) = emb
    have hw := wrapped _ h
    generalize m ((d.tc : Thread nD τ).loc main_arg1) = c at h hw ⊢
    rw [hw]
    exact masked_take (F := Bits) emb c h n j

end Cert.Proof.Sc
-- ==== Proof.Values.First.lean ====
/-
  The first least entry of a row of extended reals: what `argmin` of the row is. It exists, it is
  one only, and two ways of finding it agree: the fold of pairs (value, position), and the row's
  minimum followed by the least position at which it is met.
-/
module

public import Idealize.ShloMosaic.Lib.Pointwise

@[expose] public section

noncomputable section

namespace Cert.Proof

open Idealize.ShloMosaic

/-- `k` is the first position at which the row `D` is least. -/
structure IsFirst (D : Fin 1296 → EReal) (k : Fin 1296) : Prop where
  le : ∀ j, D k ≤ D j
  first : ∀ j, D j = D k → k ≤ j

theorem exists_first (D : Fin 1296 → EReal) : ∃ k, IsFirst D k := by
  obtain ⟨k₀, h₀⟩ := Finite.exists_min D
  have hp : ∃ n, ∃ h : n < 1296, D ⟨n, h⟩ = D k₀ := ⟨k₀.val, k₀.isLt, rfl⟩
  classical
  obtain ⟨h, e⟩ := Nat.find_spec hp
  refine ⟨⟨Nat.find hp, h⟩, fun j => e.le.trans (h₀ j), fun j hj => ?_⟩
  exact Nat.find_min' hp ⟨j.isLt, hj.trans e⟩

/-! ## The minimum, then the least position that meets it -/

theorem fold_min_eq {f : Fin 1296 → EReal} {k : Fin 1296} (h : ∀ j, f k ≤ f j) :
    Finset.univ.fold min (⊤ : EReal) f = f k :=
  le_antisymm (Finset.fold_min_le _ |>.2 (.inr ⟨k, Finset.mem_univ _, le_rfl⟩))
    (Finset.le_fold_min _ |>.2 ⟨le_top, fun j _ => h j⟩)

/-- +∞, the word. -/
theorem word_top : Ideal.ofBits .f32 0x7F800000#32 = (⊤ : EReal) := by
  simp [Ideal.ofBits, Ideal.ieee]

/-- The word that stands for "not here" is above every position. -/
theorem word_big (k : Fin 1296) : ((k.val : ℝ) : EReal) ≤ Ideal.ofBits .f32 0x7F61B1E6#32 := by
  have e : Ideal.ofBits .f32 0x7F61B1E6#32 = ((14791142 * (2 : ℝ) ^ (104 : ℕ) : ℝ) : EReal) := by
    simp [Ideal.ofBits, Ideal.ieee, -EReal.coe_mul]
  rw [e, EReal.coe_le_coe_iff]
  have : (k.val : ℝ) ≤ 1296 := by exact_mod_cast k.isLt.le
  have h2 : (1 : ℝ) ≤ (2 : ℝ) ^ (104 : ℕ) := one_le_pow₀ (by norm_num)
  nlinarith

theorem pos_toInt (k : Fin 1296) : (BitVec.ofNat 32 k.val).toInt = (k.val : ℤ) := by
  have := k.isLt
  rw [BitVec.toInt_eq_toNat_of_lt (by simp only [BitVec.toNat_ofNat]; omega), BitVec.toNat_ofNat, Nat.mod_eq_of_lt (by omega)]

theorem fptosi_pos (k : Fin 1296) : Ideal.fptosi 32 (((k.val : ℤ) : ℝ) : EReal) = BitVec.ofNat 32 k.val := by
  have := k.isLt
  unfold Ideal.fptosi
  rw [Ideal.toIntClamped_coe, if_pos (by positivity), Int.floor_intCast, min_eq_right (by norm_num; omega), max_eq_right (by norm_num)]
  exact BitVec.ofInt_natCast _ _

/-- The minimum `v` of the row, then the least position at which the row meets it, kept as a float. -/
theorem code_of_first {D : Fin 1296 → EReal} {k : Fin 1296} (h : IsFirst D k) :
    (FloatOps.fptosi (F := Ideal) (φ := .f32) 32
      (Finset.univ.fold min (Ideal.ofBits .f32 0x7F800000#32)
        (fun j => if D j = Finset.univ.fold min (Ideal.ofBits .f32 0x7F800000#32) D then (FloatOps.sitofp (F := Ideal) .f32 (BitVec.ofNat 32 j.val) : EReal)
          else Ideal.ofBits .f32 0x7F61B1E6#32))) = BitVec.ofNat 32 k.val := by
  rw [word_top, fold_min_eq h.le]
  have e : ∀ j : Fin 1296, (FloatOps.sitofp (F := Ideal) .f32 (BitVec.ofNat 32 j.val) : EReal) = (((j.val : ℤ) : ℝ) : EReal) := fun j => by
    show (((BitVec.ofNat 32 j.val).toInt : ℝ) : EReal) = _
    rw [pos_toInt]
  simp only [e]
  rw [fold_min_eq (k := k) (fun j => ?_)]
  · rw [if_pos rfl]; exact fptosi_pos k
  · rw [if_pos rfl]
    split
    next hj =>
      rw [EReal.coe_le_coe_iff]
      exact_mod_cast h.first j hj
    next => exact_mod_cast word_big k

/-! ## The fold of pairs -/

/-- One step of the fold: the pair of the lesser value, of the lesser position between equal values. -/
def argminStep (a b : EReal × BitVec 32) : EReal × BitVec 32 :=
  (if a.1 < b.1 then a.1 else b.1, if a.1 < b.1 ∨ (a.1 = b.1 ∧ a.2.toInt < b.2.toInt) then a.2 else b.2)

/-- What the pairs met satisfy: their value is above the least, or they hold the least at a position not before `k`. -/
def Behind (D : Fin 1296 → EReal) (k : Fin 1296) (p : EReal × BitVec 32) : Prop :=
  D k < p.1 ∨ (D k = p.1 ∧ (k.val : ℤ) ≤ p.2.toInt)

theorem behind_step {D : Fin 1296 → EReal} {k : Fin 1296} {a b : EReal × BitVec 32} (ha : Behind D k a) (hb : Behind D k b) :
    Behind D k (argminStep a b) := by
  unfold Behind argminStep at *
  dsimp only
  by_cases h : a.1 < b.1
  · simp only [h, if_true, true_or]; exact ha
  · simp only [h, if_false, false_or]
    split
    next h' => rw [← h'.1]; exact ha
    next => exact hb

theorem step_to {D : Fin 1296 → EReal} {k : Fin 1296} {a : EReal × BitVec 32} (ha : Behind D k a) :
    argminStep a (D k, BitVec.ofNat 32 k.val) = (D k, BitVec.ofNat 32 k.val) := by
  have hn : ¬ a.1 < D k := by
    rcases ha with h | h
    · exact not_lt.2 h.le
    · exact h.1.le.not_gt
  unfold argminStep
  dsimp only
  rw [if_neg hn, if_neg]
  rintro (h | ⟨h, h'⟩)
  · exact hn h
  · rw [pos_toInt] at h'
    rcases ha with h2 | h2
    · exact absurd h h2.ne'
    · omega

theorem step_from {D : Fin 1296 → EReal} {k : Fin 1296} {b : EReal × BitVec 32} (hb : Behind D k b) :
    argminStep (D k, BitVec.ofNat 32 k.val) b = (D k, BitVec.ofNat 32 k.val) := by
  unfold argminStep
  dsimp only
  rw [pos_toInt]
  rcases hb with h | ⟨h, h'⟩
  · rw [if_pos h, if_pos (.inl h)]
  · rw [if_neg h.not_lt, ← h]
    by_cases e : (k.val : ℤ) < b.2.toInt
    · rw [if_pos (.inr ⟨rfl, e⟩)]
    · have e2 : b.2 = BitVec.ofNat 32 k.val := BitVec.toInt_inj.1 (by rw [pos_toInt]; omega)
      rw [if_neg (by rintro (h2 | h2); exacts [lt_irrefl _ h2, e h2.2]), e2]

theorem behind_pos {D : Fin 1296 → EReal} {k : Fin 1296} (h : IsFirst D k) (j : Fin 1296) : Behind D k (D j, BitVec.ofNat 32 j.val) := by
  rcases (h.le j).lt_or_eq with e | e
  · exact .inl e
  · refine .inr ⟨e, ?_⟩
    show (k.val : ℤ) ≤ (BitVec.ofNat 32 j.val).toInt
    rw [pos_toInt]; exact_mod_cast h.first j e.symm

theorem behind_top {D : Fin 1296 → EReal} {k : Fin 1296} (h : IsFirst D k) : Behind D k (⊤, 0#32) := by
  rcases (le_top : D k ≤ ⊤).lt_or_eq with e | e
  · exact .inl e
  · refine .inr ⟨e, ?_⟩
    have : k ≤ 0 := h.first 0 (le_antisymm (by rw [e]; exact le_top) (h.le 0))
    have e0 : k.val = 0 := Nat.le_zero.1 this
    show (k.val : ℤ) ≤ (0#32 : BitVec 32).toInt
    rw [e0]; decide

theorem foldl_behind {D : Fin 1296 → EReal} {k : Fin 1296} (l : List (EReal × BitVec 32)) (hl : ∀ p ∈ l, Behind D k p) :
    ∀ a, Behind D k a → Behind D k (l.foldl argminStep a) := by
  induction l with
  | nil => exact fun a ha => ha
  | cons p l ih => exact fun a ha => ih (fun q hq => hl q (List.mem_cons_of_mem _ hq)) _ (behind_step ha (hl p List.mem_cons_self))

theorem foldl_from {D : Fin 1296 → EReal} {k : Fin 1296} (l : List (EReal × BitVec 32)) (hl : ∀ p ∈ l, Behind D k p) :
    l.foldl argminStep (D k, BitVec.ofNat 32 k.val) = (D k, BitVec.ofNat 32 k.val) := by
  induction l with
  | nil => rfl
  | cons p l ih =>
    rw [List.foldl_cons, step_from (hl p List.mem_cons_self)]
    exact ih fun q hq => hl q (List.mem_cons_of_mem _ hq)

/-- The fold over any list of the row's pairs that holds the first least one is that one. -/
theorem foldl_first {D : Fin 1296 → EReal} {k : Fin 1296} (h : IsFirst D k) (l : List (EReal × BitVec 32))
    (hl : ∀ p ∈ l, ∃ j : Fin 1296, p = (D j, BitVec.ofNat 32 j.val)) (hk : (D k, BitVec.ofNat 32 k.val) ∈ l) :
    l.foldl argminStep (⊤, 0#32) = (D k, BitVec.ofNat 32 k.val) := by
  have hb : ∀ p ∈ l, Behind D k p := fun p hp => by obtain ⟨j, rfl⟩ := hl p hp; exact behind_pos h j
  obtain ⟨l₁, l₂, rfl⟩ := List.append_of_mem hk
  rw [List.foldl_append, List.foldl_cons,
    step_to (foldl_behind l₁ (fun p hp => hb p (List.mem_append_left _ hp)) _ (behind_top h))]
  exact foldl_from l₂ fun p hp => hb p (List.mem_append_right _ (List.mem_cons_of_mem _ hp))

end Cert.Proof
-- ==== Proof.Values.Dist.lean ====
/-
  The distances of the kernel, `x·x + e·e + (-2x)·e`, and of the reference, `x·x + e·e - 2(x·e)`,
  one row `x` of the inputs against every row `e` of the table: where all entries are finite they are
  the same. (With infinities they need not be: of `x·e = (+∞) + (-∞)` the two signs differ.)
-/
module

public import proofs.«01_k».proof.Proof.Values.First

@[expose] public section

noncomputable section

namespace Cert.Proof

open Idealize.ShloMosaic

/-- The position of the first least entry of a row. -/
def first (D : Fin 1296 → EReal) : Fin 1296 := (exists_first D).choose

theorem first_spec (D : Fin 1296 → EReal) : IsFirst D (first D) := (exists_first D).choose_spec

/-- The kernel's distances: `s` holds the squared norms of the table's rows. -/
def kerRow (x : Fin 256 → EReal) (e : Fin 1296 → Fin 256 → EReal) (s : Fin 1296 → EReal) (k : Fin 1296) : EReal :=
  ∑ t, x t * x t + s k + ∑ t, Ideal.ofBits .f32 0xC0000000#32 * x t * e k t

/-- The reference's. -/
def refRow (x : Fin 256 → EReal) (e : Fin 1296 → Fin 256 → EReal) (k : Fin 1296) : EReal :=
  ∑ t, x t * x t + ∑ t, e k t * e k t - Ideal.ofBits .f32 0x40000000#32 * ∑ t, x t * e k t

theorem word_two : Ideal.ofBits .f32 0x40000000#32 = ((2 : ℝ) : EReal) := by
  simp [Ideal.ofBits, Ideal.ieee, -EReal.coe_mul]; norm_num

theorem word_neg_two : Ideal.ofBits .f32 0xC0000000#32 = ((-2 : ℝ) : EReal) := by
  simp [Ideal.ofBits, Ideal.ieee, -EReal.coe_mul]; norm_num

theorem sum_coe (f : Fin 256 → ℝ) : ∑ t, (f t : EReal) = ((∑ t, f t : ℝ) : EReal) := by
  induction (Finset.univ : Finset (Fin 256)) using Finset.induction_on with
  | empty => simp
  | insert a s ha ih => rw [Finset.sum_insert ha, Finset.sum_insert ha, ih, EReal.coe_add]

theorem refRow_eq_kerRow (x : Fin 256 → EReal) (e : Fin 1296 → Fin 256 → EReal)
    (hx : ∀ t, ∃ r : ℝ, x t = r) (he : ∀ k t, ∃ r : ℝ, e k t = r) :
    refRow x e = kerRow x e fun k => ∑ t, e k t * e k t := by
  choose a ha using hx
  choose b hb using he
  funext k
  unfold refRow kerRow
  simp only [ha, hb, word_two, word_neg_two, ← EReal.coe_mul, sum_coe, ← EReal.coe_add, ← EReal.coe_sub]
  rw [EReal.coe_eq_coe_iff, sub_eq_add_neg, Finset.mul_sum, ← Finset.sum_neg_distrib]
  congr 1
  exact Finset.sum_congr rfl fun t _ => by ring

/-- A number whose absolute value is below +∞ is real. -/
theorem real_of_abs_lt (x : EReal) (h : max x (-x) < ⊤) : ∃ r : ℝ, x = r := by
  induction x using EReal.rec with
  | bot => simp at h
  | coe r => exact ⟨r, rfl⟩
  | top => simp at h

end Cert.Proof
-- ==== Proof.Values.Codes.lean ====
/-
  The codes that the kernel finds, as one function of the rows, the table and the table's squared norms;
  and the block of 512 of them that one grid point's body computes from its blocks.
-/
module

public import proofs.«01_k».proof.Proof.Values.Dist
public import proofs.«01_k».proof.Proof.Gen.NearestIdeal.Skeleton

@[expose] public section

noncomputable section

namespace Cert.Proof

open Cert.NearestIdeal Cert.NearestIdeal.Gen
open Idealize.ShloMosaic

/-- The code of one row: the position of the first least of its distances. -/
def rowCode (x : Fin 256 → EReal) (e : FVec Ideal S1296x256 .f32) (s : FVec Ideal S1x1296 .f32) : Fin 1296 :=
  first (kerRow x (fun k t => e (ix2 k t)) fun k => s (ix2 0 k))

/-- The codes of all rows, 32 blocks of 512. -/
def codes3 (x : FVec Ideal S16384x256 .f32) (e : FVec Ideal S1296x256 .f32) (s : FVec Ideal S1x1296 .f32) : IVec S32x1x512 32 := fun j =>
  BitVec.ofNat 32 (rowCode (fun t => x (ix2 (⟨(j 0).val * 512 + (j 2).val, by have h0 : (j 0).val < 32 := (j 0).isLt; have h2 : (j 2).val < 512 := (j 2).isLt; omega⟩ : Fin 16384) t)) e s).val

set_option maxRecDepth 16384 in
/-- The body's payload, read at a row of its block. -/
theorem pay_apply (x : Vec Ideal S512x256 .f32) (e : Vec Ideal S1296x256 .f32) (s : Vec Ideal S1x1296 .f32) (r : Fin 512) :
    k0_pay1 (F := Ideal) x e s (ix3 0 0 r) = BitVec.ofNat 32 (rowCode (fun t => x (ix2 r t)) e s).val := by
  refine Eq.trans ?_ (code_of_first (first_spec (kerRow (fun t => x (ix2 r t)) (fun k t => e (ix2 k t)) fun k => s (ix2 0 k))))
  pointwise [k0_pay1]
  rfl

end Cert.Proof
-- ==== Proof.Near.Final.lean ====
/-
  The codes that the TensorCore call writes, taken by itself: block `t` of 512 from the `t`-th 512 rows,
  so the array after the run is `codes3` of the rows, the table and its squared norms.
-/
module

public import proofs.«01_k».proof.Proof.Values.Codes
public import proofs.«01_k».proof.Proof.Gen.NearestIdeal.Value

@[expose] public section

noncomputable section

namespace Cert.Proof.Near

open Cert.NearestIdeal Cert.NearestIdeal.Gen Cert.NearestIdeal.Value
open Idealize.ShloMosaic Idealize.ShloMosaic.TcCoe Idealize.SL.Sem

variable (m : (ℓ : Loc nD τ sig) → Buf (Elt Ideal) ℓ)

/-! ## Where each block lies -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 3) = t.val ∧ win0_3.index t (1 : Fin 3) = 0 ∧ win0_3.index t (2 : Fin 3) = 0 :=
  (by decide +kernel : ∀ t : Fin grid0.N, _)

theorem lt32 (t : Fin cfg0.N) : t.val < 32 := t.isLt

theorem emb0 (t : Fin cfg0.N) (r : Fin 512) (k : Fin 256) :
    ((cfg0.win 0).blk t).view.emb (ix2 r k : S512x256.Idx) = (ix2 (⟨t.val * 512 + r.val, by have := lt32 t; omega⟩ : Fin 16384) k : S16384x256.Idx) := by
  obtain ⟨e0, e1⟩ := at0 t
  funext a; apply Fin.ext
  match a with
  | ⟨0, _⟩ => show win0_0.index t (0 : Fin 2) * 512 + 1 * r.val = t.val * 512 + r.val; omega
  | ⟨1, _⟩ => show win0_0.index t (1 : Fin 2) * 256 + 1 * k.val = k.val; omega

theorem emb1 (t : Fin cfg0.N) (j : S1296x256.Idx) : ((cfg0.win 1).blk t).view.emb j = j := by
  obtain ⟨e0, e1⟩ := at1 t
  funext a; apply Fin.ext
  match a with
  | ⟨0, _⟩ => show win0_1.index t (0 : Fin 2) * 1296 + 1 * (j 0).val = (j 0).val; omega
  | ⟨1, _⟩ => show win0_1.index t (1 : Fin 2) * 256 + 1 * (j 1).val = (j 1).val; omega

theorem emb2 (t : Fin cfg0.N) (j : S1x1296.Idx) : ((cfg0.win 2).blk t).view.emb j = j := by
  obtain ⟨e0, e1⟩ := at2 t
  funext a; apply Fin.ext
  match a with
  | ⟨0, _⟩ => show win0_2.index t (0 : Fin 2) * 1 + 1 * (j 0).val = (j 0).val; omega
  | ⟨1, _⟩ => show win0_2.index t (1 : Fin 2) * 1296 + 1 * (j 1).val = (j 1).val; omega

theorem emb3 (t : Fin cfg0.N) (r : Fin 512) :
    ((cfg0.win 3).blk t).view.emb (ix3 0 0 r : S1x1x512.Idx) = (ix3 (⟨t.val, lt32 t⟩ : Fin 32) 0 r : S32x1x512.Idx) := by
  obtain ⟨e0, e1, e2⟩ := at3 t
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 512 + 1 * r.val = r.val; omega

theorem eq_blk3 (j : S1x1x512.Idx) : ∃ r : Fin 512, j = ix3 0 0 r :=
  ⟨j 2, by
    funext a
    match a with
    | 0 => exact Subsingleton.elim (α := Fin 1) _ _
    | 1 => exact Subsingleton.elim (α := Fin 1) _ _
    | 2 => rfl⟩

/-! ## The blocks, and the array they make -/

theorem zero2 : (![0, 0] : Fin 2 → Nat) = fun _ => 0 := by funext a; fin_cases a <;> rfl
theorem zero3 : (![0, 0, 0] : Fin 3 → Nat) = fun _ => 0 := by funext a; fin_cases a <;> rfl

theorem out_eq (x0 : Vec Ideal S512x256 .f32) (x1 : Vec Ideal S1296x256 .f32) (x2 : Vec Ideal S1x1296 .f32) :
    out0_3 x0 x1 x2 = k0_pay1 x0 x1 x2 := by
  unfold out0_3
  rw [View.canon_unit_zero zero3, View.ld_unit_zero zero2, View.ld_unit_zero zero2, View.ld_unit_zero zero2]

/-- The codes of the arrays as the call finds them. -/
def cod (c : Dev nD) : IVec S32x1x512 32 := codes3 (V m c main_v3) (V m c main_arg1) (V m c main_v2)

theorem flushed_eq (c : Dev nD) (t : Fin cfg0.N) :
    (dats m 0 c).flushed 3 t = ((cfg0.win 3).blk t).view.read (Elt Ideal) (cod m c) := by
  rw [flushed3, out_eq]
  funext j
  obtain ⟨r, rfl⟩ := eq_blk3 j
  show k0_pay1 (F := Ideal) (iblk m c 0 t) (iblk m c 1 t) (iblk m c 2 t) (ix3 0 0 r) = cod m c (((cfg0.win 3).blk t).view.emb (ix3 0 0 r : S1x1x512.Idx))
  rw [pay_apply, emb3]
  have h0 : (fun k => iblk m c 0 t (ix2 r k : S512x256.Idx)) = fun k => V m c main_v3 (ix2 (⟨t.val * 512 + r.val, by have := lt32 t; omega⟩ : Fin 16384) k : S16384x256.Idx) := by
    funext k
    show V m c main_v3 (((cfg0.win 0).blk t).view.emb (ix2 r k : S512x256.Idx)) = _
    rw [emb0]
  have h1 : iblk m c 1 t = V m c main_arg1 := by
    funext j
    show V m c main_arg1 (((cfg0.win 1).blk t).view.emb j) = V m c main_arg1 j
    rw [emb1]
  have h2 : iblk m c 2 t = V m c main_v2 := by
    funext j
    show V m c main_v2 (((cfg0.win 2).blk t).view.emb j) = V m c main_v2 j
    rw [emb2]
  exact congrArg (fun p => BitVec.ofNat 32 (Fin.val p)) (congr (congr (congrArg rowCode h0) h1) h2)

theorem covered (i : S32x1x512.Idx) : ∃ t : Fin cfg0.N, (cfg0.win 3).flush t = true ∧ i ∈ ((cfg0.win 3).blk t).view.set := by
  have hi : i = (ix3 (i 0) 0 (i 2) : S32x1x512.Idx) := by
    funext a
    match a with
    | 0 => rfl
    | 1 => exact Subsingleton.elim (α := Fin 1) _ _
    | 2 => rfl
  refine ⟨(⟨(i 0).val, (i 0).isLt⟩ : Fin cfg0.N), flush0_3 _, ?_⟩
  have h := ((cfg0.win 3).blk (⟨(i 0).val, (i 0).isLt⟩ : Fin cfg0.N)).view.emb_mem_set (ix3 0 0 (i 2) : S1x1x512.Idx)

  exact (congrArg (· ∈ ((cfg0.win 3).blk (⟨(i 0).val, (i 0).isLt⟩ : Fin cfg0.N)).view.set) (hi.trans (emb3 _ _).symm)).mpr h

theorem final (c : Dev nD) : (dats m 0 c).arrAt 3 cfg0.N = cod m c :=
  (dats m 0 c).arrAt_eq_of_cover 3 (cod m c) (fun t _ => flushed_eq m c t) covered

end Cert.Proof.Near
-- ==== Proof.Values.Argmin.lean ====
/-
  The reference's `argmin`, as it prints — a fold over the (value, position) pairs of a row —, read
  at a row: the position of the row's first least entry.
-/
module

public import proofs.«01_k».proof.Proof.Values.Dist
public import proofs.«01_k».proof.Proof.Gen.NearestReferenceIdeal

@[expose] public section

noncomputable section

namespace Cert.Proof

open Idealize.ShloMosaic Idealize.ShloMosaic.StableHlo
open Cert.NearestReferenceIdeal Cert.NearestReferenceIdeal.Gen

/-- The printed reducer is the step of the fold of pairs. -/
theorem reducer_eq (a b : EReal × BitVec 32) : reducer_argmin_f32_i32 (F := Ideal) a b = argminStep a b := by
  unfold reducer_argmin_f32_i32 argminStep
  dsimp only
  have e1 : ∀ x y : EReal, FloatOps.cmpf (F := Ideal) (φ := .f32) .olt x y = BitVec.ofBool (decide (x < y)) := fun _ _ => rfl
  have e2 : ∀ x : EReal, FloatOps.cmpf (F := Ideal) (φ := .f32) .une x x = BitVec.ofBool false := fun x => by
    show BitVec.ofBool (decide (x ≠ x)) = _
    simp
  have e3 : ∀ x y : EReal, FloatOps.cmpf (F := Ideal) (φ := .f32) .oeq x y = BitVec.ofBool (decide (x = y)) := fun _ _ => rfl
  have e4 : IntOp.cmpi .slt a.2 b.2 = BitVec.ofBool (decide (a.2.toInt < b.2.toInt)) := rfl
  have s : ∀ {α : Type} (p : Bool) (x y : α), Scalar.select (BitVec.ofBool p) x y = if p then x else y := fun p x y => by
    cases p <;> rfl
  have o : ∀ p q : Bool, IntOp.ori (BitVec.ofBool p) (BitVec.ofBool q) = BitVec.ofBool (p || q) := by decide
  have n : ∀ p q : Bool, IntOp.andi (BitVec.ofBool p) (BitVec.ofBool q) = BitVec.ofBool (p && q) := by decide
  rw [e1, e2, e3, e4, n, o, o, s, s]
  simp

/-- The second components of a family of pairs. -/
def seconds {J α β : Type} (g : J → α × β) : J → β := fun j => (g j).2

theorem seconds_apply {J α β : Type} (g : J → α × β) (j : J) : seconds g j = (g j).2 := rfl

/-- The printed `argmin` of the rows of `D`. -/
def argminOf (D : FVec Ideal S16x32x32x1296 .f32) : IVec S16x32x32 32 :=
  seconds (Host.argReduce reducer_argmin_f32_i32 D (iotaInDim S16x32x32x1296 32 3) (constant S_ .f32 0x7F800000#32) (constantI S_ 32 0#32)
    reducesTo_S16x32x32x1296_S16x32x32_d3 h_S_)

set_option maxRecDepth 16384 in
theorem argmin_apply (D : FVec Ideal S16x32x32x1296 .f32) (a : Fin 16) (b c : Fin 32) (k : Fin 1296)
    (h : IsFirst (fun k => D (ix4 a b c k)) k) :
    argminOf D (ix3 a b c : S16x32x32.Idx) = BitVec.ofNat 32 k.val := by
  unfold argminOf
  rw [Ideal.argReduce_eq_reduce2, seconds_apply, Host.reduce2_eq_foldl_fiber]
  have er : (reducer_argmin_f32_i32 (F := Ideal)) = argminStep := funext fun a => funext fun b => reducer_eq a b
  have hd : ∀ i : S16x32x32x1296.Idx, (reducesTo_S16x32x32x1296_S16x32x32_d3).drop i = (ix3 a b c : S16x32x32.Idx) ↔ ∃ k : Fin 1296, ix4 a b c k = i :=
    fun i => Shape.ReducesTo.fiber_r4_a3 (n0 := 16) (n1 := 32) (n2 := 32) (n3 := 1296) reducesTo_S16x32x32x1296_S16x32x32_d3 (ix3 a b c : S16x32x32.Idx) i
  have hi : (constant (F := Ideal) S_ .f32 0x7F800000#32 (Shape.Idx.first h_S_), constantI S_ 32 0#32 (Shape.Idx.first h_S_)) = ((⊤ : EReal), 0#32) :=
    Prod.ext word_top rfl
  rw [er, hi]
  have key : List.foldl argminStep ((⊤ : EReal), 0#32) (Host.argReduceFiber D (iotaInDim S16x32x32x1296 32 3) reducesTo_S16x32x32x1296_S16x32x32_d3 (ix3 a b c : S16x32x32.Idx))
      = (D (ix4 a b c k), BitVec.ofNat 32 k.val) := foldl_first h _ ?_ ?_
  · exact congrArg Prod.snd key
  · intro p hp
    obtain ⟨n, hn, rfl⟩ := List.mem_map.1 hp
    obtain ⟨j, hj⟩ := (hd _).1 (of_decide_eq_true (List.mem_filter.1 hn).2)
    exact ⟨j, by rw [← hj]; rfl⟩
  · refine List.mem_map.2 ⟨S16x32x32x1296.rowMajor (ix4 a b c k), List.mem_filter.2 ⟨List.mem_finRange _, decide_eq_true ?_⟩, ?_⟩
    · rw [Equiv.symm_apply_apply]; exact (hd _).2 ⟨k, rfl⟩
    · rw [Equiv.symm_apply_apply]; rfl

/-! ## The distances of the reference -/

/-- The reference's distances, from the inputs and the table. -/
def refDist (x : FVec Ideal S16x32x32x256 .f32) (e : FVec Ideal S1296x256 .f32) : FVec Ideal S16x32x32x1296 .f32 :=
  subf
    (addf
      (broadcastInDim S16x32x32x1296 ![0, 1, 2, 3] bcast_S16x32x32x1_S16x32x32x1296_0_1_2_3
        (broadcastInDim S16x32x32x1 ![0, 1, 2] bcast_S16x32x32_S16x32x32x1_0_1_2
          (Host.reduceAdd (mulf x x) (constant S_ .f32 0x00000000#32) reducesTo_S16x32x32x256_S16x32x32_d3 h_S_)))
      (broadcastInDim S16x32x32x1296 ![0, 1, 2, 3] bcast_S1x1x1x1296_S16x32x32x1296_0_1_2_3
        (broadcastInDim S1x1x1x1296 ![3] bcast_S1296_S1x1x1x1296_3
          (Host.reduceAdd (mulf e e) (constant S_ .f32 0x00000000#32) reducesTo_S1296x256_S1296_d1 h_S_))))
    (mulf (broadcastInDim S16x32x32x1296 ![] bcast_S_S16x32x32x1296 (constant S_ .f32 0x40000000#32))
      (Host.dotGeneral dot_S16x32x32x256_S1296x256_S16x32x32x1296_3_1_012_0_n_n none x e))

/-- The reference's codes. -/
def refCodes (x : FVec Ideal S16x32x32x256 .f32) (e : FVec Ideal S1296x256 .f32) : IVec S16x32x32 32 := argminOf (refDist x e)

set_option maxRecDepth 16384 in
theorem refDist_apply (x : FVec Ideal S16x32x32x256 .f32) (e : FVec Ideal S1296x256 .f32) (a : Fin 16) (b c : Fin 32) (k : Fin 1296) :
    refDist x e (ix4 a b c k) = ((∑ t, x (ix4 a b c t) * x (ix4 a b c t) + ∑ t, e (ix2 k t) * e (ix2 k t)
      - Ideal.ofBits .f32 0x40000000#32 * ∑ t, x (ix4 a b c t) * e (ix2 k t) : EReal) : EReal) := by
  pointwise [refDist]

theorem refDist_first (x : FVec Ideal S16x32x32x256 .f32) (e : FVec Ideal S1296x256 .f32) (a : Fin 16) (b c : Fin 32) :
    IsFirst (fun k => refDist x e (ix4 a b c k)) (first (refRow (fun t => x (ix4 a b c t)) fun k t => e (ix2 k t))) := by
  have h : (fun k => refDist x e (ix4 a b c k)) = refRow (fun t => x (ix4 a b c t)) fun k t => e (ix2 k t) :=
    funext fun k => refDist_apply x e a b c k
  rw [h]
  exact first_spec _

theorem refCodes_apply (x : FVec Ideal S16x32x32x256 .f32) (e : FVec Ideal S1296x256 .f32) (a : Fin 16) (b c : Fin 32) :
    refCodes x e (ix3 a b c : S16x32x32.Idx) = BitVec.ofNat 32 (first (refRow (fun t => x (ix4 a b c t)) fun k t => e (ix2 k t))).val :=
  argmin_apply (refDist x e) a b c _ (refDist_first x e a b c)

end Cert.Proof
-- ==== Proof.Near.RefRun.lean ====
/-
  The nearest-code reference's @main as a list of host operations, and its run read back.
-/
module

public import proofs.«01_k».proof.Proof.Values.Argmin
public import proofs.«01_k».proof.Proof.Gen.NearestReferenceIdeal
public import Idealize.ShloMosaic.Lib.StableHlo.Run

@[expose] public section

noncomputable section

namespace Cert.Proof.NearRef

open Cert.NearestReferenceIdeal Cert.NearestReferenceIdeal.Gen Idealize.ShloMosaic Idealize.ShloMosaic.TcCoe Idealize.SL.Sem Idealize.ShloMosaic.StableHlo

variable {F : FTy → Type} [FloatOps F]

/-- The least values of the rows, as the printed reduction of pairs gives them. -/
def pairVal (x : FVec F S16x32x32x1296 .f32) (y : IVec S16x32x32x1296 32) (u : FVec F S_ .f32) (v : IVec S_ 32) : FVec F S16x32x32 .f32 :=
  fun j => (Host.argReduce reducer_argmin_f32_i32 x y u v reducesTo_S16x32x32x1296_S16x32x32_d3 h_S_ j).1

/-- The positions of the least values, as the printed reduction of pairs gives them. -/
def pairPos (x : FVec F S16x32x32x1296 .f32) (y : IVec S16x32x32x1296 32) (u : FVec F S_ .f32) (v : IVec S_ 32) : IVec S16x32x32 32 :=
  seconds (Host.argReduce reducer_argmin_f32_i32 x y u v reducesTo_S16x32x32x1296_S16x32x32_d3 h_S_)

/-- The operations of the reference's @main, in order. -/
abbrev ops : List (HloOp τ sig (Elt F)) :=
  [ binary main_arg0 main_arg0 main_v0 (mulf : (⟨S16x32x32x256, .f32⟩ : BufTy).Contents (Elt F) → (⟨S16x32x32x256, .f32⟩ : BufTy).Contents (Elt F) → (⟨S16x32x32x256, .f32⟩ : BufTy).Contents (Elt F)),
    nullary main_cst (constant S_ .f32 0x00000000#32),
    binary main_v0 main_cst main_v1 ((fun x v => Host.reduceAdd x v reducesTo_S16x32x32x256_S16x32x32_d3 h_S_) : (⟨S16x32x32x256, .f32⟩ : BufTy).Contents (Elt F) → (⟨S_, .f32⟩ : BufTy).Contents (Elt F) → (⟨S16x32x32, .f32⟩ : BufTy).Contents (Elt F)),
    unary main_v1 main_v2 (broadcastInDim S16x32x32x1 ![0, 1, 2] bcast_S16x32x32_S16x32x32x1_0_1_2 : (⟨S16x32x32, .f32⟩ : BufTy).Contents (Elt F) → (⟨S16x32x32x1, .f32⟩ : BufTy).Contents (Elt F)),
    binary main_arg1 main_arg1 main_v3 (mulf : (⟨S1296x256, .f32⟩ : BufTy).Contents (Elt F) → (⟨S1296x256, .f32⟩ : BufTy).Contents (Elt F) → (⟨S1296x256, .f32⟩ : BufTy).Contents (Elt F)),
    nullary main_cst_0 (constant S_ .f32 0x00000000#32),
    binary main_v3 main_cst_0 main_v4 ((fun x v => Host.reduceAdd x v reducesTo_S1296x256_S1296_d1 h_S_) : (⟨S1296x256, .f32⟩ : BufTy).Contents (Elt F) → (⟨S_, .f32⟩ : BufTy).Contents (Elt F) → (⟨S1296, .f32⟩ : BufTy).Contents (Elt F)),
    binary main_arg0 main_arg1 main_v5 ((fun l r => Host.dotGeneral dot_S16x32x32x256_S1296x256_S16x32x32x1296_3_1_012_0_n_n none l r) : (⟨S16x32x32x256, .f32⟩ : BufTy).Contents (Elt F) → (⟨S1296x256, .f32⟩ : BufTy).Contents (Elt F) → (⟨S16x32x32x1296, .f32⟩ : BufTy).Contents (Elt F)),
    unary main_v4 main_v6 (broadcastInDim S1x1x1x1296 ![3] bcast_S1296_S1x1x1x1296_3 : (⟨S1296, .f32⟩ : BufTy).Contents (Elt F) → (⟨S1x1x1x1296, .f32⟩ : BufTy).Contents (Elt F)),
    unary main_v2 main_v7 (broadcastInDim S16x32x32x1296 ![0, 1, 2, 3] bcast_S16x32x32x1_S16x32x32x1296_0_1_2_3 : (⟨S16x32x32x1, .f32⟩ : BufTy).Contents (Elt F) → (⟨S16x32x32x1296, .f32⟩ : BufTy).Contents (Elt F)),
    unary main_v6 main_v8 (broadcastInDim S16x32x32x1296 ![0, 1, 2, 3] bcast_S1x1x1x1296_S16x32x32x1296_0_1_2_3 : (⟨S1x1x1x1296, .f32⟩ : BufTy).Contents (Elt F) → (⟨S16x32x32x1296, .f32⟩ : BufTy).Contents (Elt F)),
    binary main_v7 main_v8 main_v9 (addf : (⟨S16x32x32x1296, .f32⟩ : BufTy).Contents (Elt F) → (⟨S16x32x32x1296, .f32⟩ : BufTy).Contents (Elt F) → (⟨S16x32x32x1296, .f32⟩ : BufTy).Contents (Elt F)),
    nullary main_cst_1 (constant S_ .f32 0x40000000#32),
    unary main_cst_1 main_v10 (broadcastInDim S16x32x32x1296 ![] bcast_S_S16x32x32x1296 : (⟨S_, .f32⟩ : BufTy).Contents (Elt F) → (⟨S16x32x32x1296, .f32⟩ : BufTy).Contents (Elt F)),
    binary main_v10 main_v5 main_v11 (mulf : (⟨S16x32x32x1296, .f32⟩ : BufTy).Contents (Elt F) → (⟨S16x32x32x1296, .f32⟩ : BufTy).Contents (Elt F) → (⟨S16x32x32x1296, .f32⟩ : BufTy).Contents (Elt F)),
    binary main_v9 main_v11 main_v12 (subf : (⟨S16x32x32x1296, .f32⟩ : BufTy).Contents (Elt F) → (⟨S16x32x32x1296, .f32⟩ : BufTy).Contents (Elt F) → (⟨S16x32x32x1296, .f32⟩ : BufTy).Contents (Elt F)),
    TRef.nullary (TRef.of (T := ⟨S16x32x32x1296, .i32⟩) main_call0_v0) (iotaInDim S16x32x32x1296 32 3),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16x32x32x1296, .f32⟩) main_v12) (TRef.of (T := ⟨S16x32x32x1296, .i32⟩) main_call0_v0) (TRef.of (T := ⟨S_, .f32⟩) main_call0_cst) (TRef.of (T := ⟨S_, .i32⟩) main_call0_c) (TRef.of (T := ⟨S16x32x32, .f32⟩) main_call0_v1_0) pairVal,
    TRef.quaternary (TRef.of (T := ⟨S16x32x32x1296, .f32⟩) main_v12) (TRef.of (T := ⟨S16x32x32x1296, .i32⟩) main_call0_v0) (TRef.of (T := ⟨S_, .f32⟩) main_call0_cst) (TRef.of (T := ⟨S_, .i32⟩) main_call0_c) (TRef.of (T := ⟨S16x32x32, .i32⟩) main_v13) pairPos,
    reshape main_v13 main_v14 (rfl : (.i32 : EltTy) = .i32) shapeCasts_S16x32x32_S32x1x512 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., binary_bufs_sub .., unary_bufs_sub .., unary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., reshape_bufs_sub ..⟩

set_option maxHeartbeats 2000000 in
/-- The run of the reference: the nearest codes, in the layout of the kernel's result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = shapeCast S32x1x512 (refCodes (m ((c.tc : Thread nD τ).loc main_arg0)) (m ((c.tc : Thread nD τ).loc main_arg1))) shapeCasts_S16x32x32_S32x1x512
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v14).trans (by simp only [ops, TRef.binary, TRef.nullary, TRef.ternary, TRef.quaternary, TRef.unary, TRef.toBuf, TRef.ofBuf, cast_eq]; after_results <;> rfl),
      (h c main_arg0).trans (by simp only [ops, TRef.binary, TRef.nullary, TRef.ternary, TRef.quaternary, TRef.unary, TRef.toBuf, TRef.ofBuf, cast_eq]; after_results <;> rfl),
      (h c main_arg1).trans (by simp only [ops, TRef.binary, TRef.nullary, TRef.ternary, TRef.quaternary, TRef.unary, TRef.toBuf, TRef.ofBuf, cast_eq]; after_results <;> rfl)⟩)
    (run_seq scopedRefs_eq scopedSems_eq defs main (fun _ => ops (F := Ideal)) main_eq (fun _ => ops_sub) m ρ)

end Cert.Proof.NearRef
-- ==== Proof.Values.Match.lean ====
/-
  The kernel's codes against the reference's: row `n` of the flattened inputs is the row of the
  inputs at `(n / 1024, n / 32 % 32, n % 32)`, and where all entries are finite the two distances,
  so the two codes, are the same.
-/
module

public import proofs.«01_k».proof.Proof.Values.Codes
public import proofs.«01_k».proof.Proof.Values.Argmin
public import proofs.«01_k».proof.Proof.Gen.NearestIdeal
public import proofs.«01_k».proof.Proof.Gen.Pre_finite
public import Idealize.ShloMosaic.Lib.ReduceAll
public import Idealize.ShloMosaic.Lib.Pipeline.Value

@[expose] public section

noncomputable section

namespace Cert.Proof

open Cert.NearestIdeal Cert.NearestIdeal.Gen
open Idealize.ShloMosaic Idealize.ShloMosaic.StableHlo

/-- The rows of the inputs, one after the other. -/
def rows (x : FVec Ideal S16x32x32x256 .f32) : FVec Ideal S16384x256 .f32 := shapeCast S16384x256 x shapeCasts_S16x32x32x256_S16384x256

/-- The squared norms of the table's rows, as the host sums them. -/
def norms (e : FVec Ideal S1296x256 .f32) : FVec Ideal S1x1296 .f32 :=
  broadcastInDim S1x1296 ![1] bcast_S1296_S1x1296_1
    (Host.reduceAdd (mulf e e) (constant S_ .f32 0x00000000#32) reducesTo_S1296x256_S1296_d1 h_S_)

/-- The codes of the kernel, from the inputs and the table. -/
def kerCode (x : FVec Ideal S16x32x32x256 .f32) (e : FVec Ideal S1296x256 .f32) (n : Fin 16384) : Fin 1296 :=
  rowCode (fun t => rows x (ix2 n t)) e (norms e)

theorem rm4 (a : Fin 16) (b c : Fin 32) (t : Fin 256) :
    ((⟨4, ![16, 32, 32, 256]⟩ : Shape).rowMajor (ix4 a b c t)).val = ((a.val * 32 + b.val) * 32 + c.val) * 256 + t.val := by
  rw [Shape.rowMajor_val_four]; rfl

theorem rm2 (n : Fin 16384) (t : Fin 256) : ((⟨2, ![16384, 256]⟩ : Shape).rowMajor (ix2 n t)).val = n.val * 256 + t.val := by
  rw [Shape.rowMajor_val_two]; rfl

theorem rm3 (a : Fin 16) (b c : Fin 32) : ((⟨3, ![16, 32, 32]⟩ : Shape).rowMajor (ix3 a b c)).val = (a.val * 32 + b.val) * 32 + c.val := by
  rw [Shape.rowMajor_val_three]; rfl

theorem flat_rows {α : Type} (x : (⟨4, ![16, 32, 32, 256]⟩ : Shape).Idx → α) (h : (⟨4, ![16, 32, 32, 256]⟩ : Shape).ShapeCasts ⟨2, ![16384, 256]⟩)
    (a : Fin 16) (b c : Fin 32) (t : Fin 256) (n : Fin 16384) (hn : n.val = (a.val * 32 + b.val) * 32 + c.val) :
    shapeCast (⟨2, ![16384, 256]⟩ : Shape) x h (ix2 n t) = x (ix4 a b c t) := by
  refine shapeCast_apply _ _ _ _ ?_
  rw [rm4, rm2, hn]

theorem rows_apply (x : FVec Ideal S16x32x32x256 .f32) (a : Fin 16) (b c : Fin 32) (t : Fin 256) (n : Fin 16384)
    (hn : n.val = (a.val * 32 + b.val) * 32 + c.val) : rows x (ix2 n t) = x (ix4 a b c t) :=
  flat_rows x _ a b c t n hn

set_option maxRecDepth 16384 in
theorem norms_apply (e : FVec Ideal S1296x256 .f32) (k : Fin 1296) :
    norms e (ix2 0 k) = (∑ t, e (ix2 k t) * e (ix2 k t) : EReal) := by
  pointwise [norms]

/-- Every entry of the inputs and of the table is a real number. -/
def Real (x : FVec Ideal S16x32x32x256 .f32) (e : FVec Ideal S1296x256 .f32) : Prop :=
  (∀ i, ∃ r : ℝ, x i = (r : EReal)) ∧ ∀ i, ∃ r : ℝ, e i = (r : EReal)

theorem codes_match (x : FVec Ideal S16x32x32x256 .f32) (e : FVec Ideal S1296x256 .f32) (h : Real x e) (a : Fin 16) (b c : Fin 32) (n : Fin 16384)
    (hn : n.val = (a.val * 32 + b.val) * 32 + c.val) :
    refCodes x e (ix3 a b c : (⟨3, ![16, 32, 32]⟩ : Shape).Idx) = BitVec.ofNat 32 (kerCode x e n).val := by
  rw [refCodes_apply, refRow_eq_kerRow _ _ (fun t => h.1 _) (fun k t => h.2 _)]
  unfold kerCode rowCode
  have e0 : (fun t => rows x (ix2 n t)) = fun t => x (ix4 a b c t) := funext fun t => rows_apply x a b c t n hn
  rw [e0]
  simp only [norms_apply]

set_option maxRecDepth 16384 in
/-- The precondition says so. -/
theorem real_of_pre (x : FVec Ideal S16x32x32x256 .f32) (e : FVec Ideal S1296x256 .f32)
    (h : (Cert.Pre_finite.fn (F := Ideal) x e).1 = (fun _ => 1#1) ∧ (Cert.Pre_finite.fn (F := Ideal) x e).2 = fun _ => 1#1) : Real x e := by
  have hs : Subsingleton S_.Idx := ⟨fun a b => funext fun k => k.elim0⟩
  have key : ∀ v : EReal, BitVec.ofBool (decide (max v (-v) < Ideal.ofBits .f32 0x7F800000#32)) = 1#1 → ∃ r : ℝ, v = (r : EReal) := fun v hv => by
    rw [word_top] at hv
    refine real_of_abs_lt v ?_
    by_contra hn
    rw [decide_eq_false hn] at hv
    exact absurd hv (by decide)
  unfold Cert.Pre_finite.fn at h
  dsimp only at h
  have h0 := fun i => Host.reduce_andi_all _ _ _ _ _ (congrFun h.1 fun k => k.elim0) i
  have h1 := fun i => Host.reduce_andi_all _ _ _ _ _ (congrFun h.2 fun k => k.elim0) i
  exact ⟨fun i => key _ (h0 i), fun i => key _ (h1 i)⟩

end Cert.Proof
-- ==== Proof.Values.Flat.lean ====
/-
  The same codes in three layouts: by block and place in the block, by row, and by image, row and
  column.  Under real inputs the kernel's codes are the reference's in each.
-/
module

public import proofs.«01_k».proof.Proof.Values.Match

@[expose] public section

noncomputable section

namespace Cert.Proof

open Cert.NearestIdeal Cert.NearestIdeal.Gen
open Idealize.ShloMosaic Idealize.ShloMosaic.StableHlo

theorem rmBlk (t : Fin 32) (r : Fin 512) : ((⟨3, ![32, 1, 512]⟩ : Shape).rowMajor (ix3 t 0 r)).val = t.val * 512 + r.val := by
  rw [Shape.rowMajor_val_three]
  show (t.val * 1 + 0) * 512 + r.val = _
  omega

/-- The image, row and column of a flat position. -/
theorem unflat (n : Fin 16384) : ∃ (a : Fin 16) (b c : Fin 32), n.val = (a.val * 32 + b.val) * 32 + c.val :=
  ⟨⟨n.val / 1024, by omega⟩, ⟨n.val / 32 % 32, by omega⟩, ⟨n.val % 32, by omega⟩, by dsimp only; omega⟩

/-- Codes by image read as codes by block. -/
theorem by_block {α : Type} (g : (⟨3, ![16, 32, 32]⟩ : Shape).Idx → α) (h : (⟨3, ![16, 32, 32]⟩ : Shape).ShapeCasts ⟨3, ![32, 1, 512]⟩)
    (a : Fin 16) (b c : Fin 32) (t : Fin 32) (r : Fin 512) (hn : t.val * 512 + r.val = (a.val * 32 + b.val) * 32 + c.val) :
    shapeCast (⟨3, ![32, 1, 512]⟩ : Shape) g h (ix3 t 0 r) = g (ix3 a b c) := by
  refine shapeCast_apply _ _ _ _ ?_
  rw [rm3, rmBlk, hn]

/-- The row that a place in a block stands for. -/
def flatRow (t : Fin 32) (r : Fin 512) : Fin 16384 := ⟨t.val * 512 + r.val, by omega⟩

theorem codes3_apply (x : FVec Ideal S16x32x32x256 .f32) (e : FVec Ideal S1296x256 .f32) (t : Fin 32) (r : Fin 512) :
    codes3 (rows x) e (norms e) (ix3 t 0 r : S32x1x512.Idx) = BitVec.ofNat 32 (kerCode x e (flatRow t r)).val := rfl

theorem eq_blk (j : (⟨3, ![32, 1, 512]⟩ : Shape).Idx) : ∃ (t : Fin 32) (r : Fin 512), j = ix3 t 0 r :=
  ⟨j 0, j 2, by
    funext a
    match a with
    | 0 => rfl
    | 1 => exact Subsingleton.elim (α := Fin 1) _ _
    | 2 => rfl⟩

theorem codes3_eq (x : FVec Ideal S16x32x32x256 .f32) (e : FVec Ideal S1296x256 .f32) (h : Real x e)
    (hc : (⟨3, ![16, 32, 32]⟩ : Shape).ShapeCasts ⟨3, ![32, 1, 512]⟩) :
    shapeCast (⟨3, ![32, 1, 512]⟩ : Shape) (refCodes x e) hc = codes3 (rows x) e (norms e) := by
  funext j
  obtain ⟨t, r, rfl⟩ := eq_blk j
  obtain ⟨a, b, c, hn⟩ := unflat (flatRow t r)
  rw [codes3_apply, by_block (refCodes x e) hc a b c t r hn]
  exact codes_match x e h a b c _ hn

/-- Whatever the floats hold, a code of the kernel names a row. -/
theorem codes3_lt (x : FVec Ideal S16384x256 .f32) (e : FVec Ideal S1296x256 .f32) (s : FVec Ideal S1x1296 .f32) (j : S32x1x512.Idx) :
    (codes3 x e s j).toNat < 1296 := by
  have : ∀ k : Fin 1296, (BitVec.ofNat 32 k.val).toNat < 1296 := fun k => by
    rw [BitVec.toNat_ofNat, Nat.mod_eq_of_lt (by omega)]; exact k.isLt
  exact this _

end Cert.Proof
-- ==== Proof.Near.Claims.lean ====
/-
  The claims about the TensorCore call taken by itself.
-/
module

public import proofs.«01_k».proof.Defs
public import proofs.«01_k».proof.Proof.Near.Final
public import proofs.«01_k».proof.Proof.Near.RefRun
public import proofs.«01_k».proof.Proof.Values.Flat
public import proofs.«01_k».proof.Proof.Gen.Nearest
public import proofs.«01_k».proof.Proof.Gen.Nearest.Frame
public import proofs.«01_k».proof.Proof.Gen.NearestIdeal.Frame

@[expose] public section

noncomputable section

namespace Cert.Proof.Near

open Cert.NearestIdeal Cert.NearestIdeal.Gen Cert.NearestIdeal.Value
open Idealize.ShloMosaic Idealize.ShloMosaic.TcCoe Idealize.ShloMosaic.StableHlo Idealize.SL.Sem

section
variable (m : (ℓ : Loc nD τ sig) → Buf (Elt Ideal) ℓ)

theorem V_rows (c : Dev nD) : V m c main_v3 = rows (m ((c.tc : Thread nD τ).loc main_arg0)) := by
  show StableHlo.after hostOps0 _ (Proc.devRef .tc main_v3) = _
  simp only [hostOps0]
  after_results <;> rfl

theorem V_norms (c : Dev nD) : V m c main_v2 = norms (m ((c.tc : Thread nD τ).loc main_arg1)) := by
  show StableHlo.after hostOps0 _ (Proc.devRef .tc main_v2) = _
  simp only [hostOps0]
  after_results <;> rfl

theorem cod_eq (c : Dev nD) : cod m c = codes3 (rows (m ((c.tc : Thread nD τ).loc main_arg0))) (m ((c.tc : Thread nD τ).loc main_arg1)) (norms (m ((c.tc : Thread nD τ).loc main_arg1))) := by
  unfold cod
  rw [V_rows, V_norms, V_main_arg1]

end

theorem frame_Nearest : Cert.quiescent_Nearest := fun m ρ _ => Cert.Nearest.Gen.frame m ρ

theorem frame_NearestIdeal : Cert.quiescent_NearestIdeal := fun m ρ _ => Cert.NearestIdeal.Gen.frame m ρ

theorem frame_NearestIdeal_pre : Cert.quiescent_NearestIdeal_pre_finite := fun m ρ _ => Cert.NearestIdeal.Gen.frame m ρ

theorem frame_NearestReferenceIdeal : Cert.quiescent_NearestReferenceIdeal := by
  intro m ρ _
  exact (θ_run Cert.NearestReferenceIdeal.defs _ _).mono (fun r h => ⟨fun d => (h d).2, sem_eq_zero_of_no_sems (by decide) r.2⟩) (NearRef.run m ρ)

theorem frame_NearestReferenceIdeal_pre : Cert.quiescent_NearestReferenceIdeal_pre_finite := fun m ρ _ => frame_NearestReferenceIdeal m ρ trivial

theorem algebraic_Nearest : Cert.algebraic_NearestIdeal_NearestReferenceIdeal_pre_finite := by
  intro m g m' g' hpre hargs
  refine ⟨fun c => cod m c, ?_, ?_⟩
  · exact (θ_run Cert.NearestIdeal.defs _ _).mono (fun _ h c => ⟨(h c).1.trans (final m c), (h c).2⟩) (run_blocks m g)
  · refine (θ_run Cert.NearestReferenceIdeal.defs _ _).mono (fun _ h c => ⟨(h c).1.trans ?_, (h c).2⟩) (NearRef.run m' g')
    obtain ⟨h0, h1⟩ := hargs c
    rw [h0, h1]
    refine Eq.trans ?_ (cod_eq m c).symm
    exact codes3_eq _ _ (real_of_pre _ _ (hpre c)) _

end Cert.Proof.Near
-- ==== Proof.Whole.Setup.lean ====
/-
  The gather on the SparseCore in the whole kernel, set up for its launch: the signature, the semaphores' and
  transfers' algebra, the arrays it reads and writes, how the rows of the result are dealt to the
  thirty-two tiles, and what each tile is handed and hands back. The contents are named from the
  start: a tile brings its blocks of the result back holding the rows its codes name (`gath`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds of the call on the TensorCore. -/
abbrev EP : Emb UP (MT nD τ sig (HIx 1) (Elt F) ℕ UU ℕ) := (Emb.inl : Emb UP (UP × Counters)).trans embR

example : (EP (F := F)).LandsIn (upEmb : UEmb _ 𝕄) := inferInstance

/-! ## The arrays -/

/-- The table, the codes and the gathered rows, as the TensorCore's program names them. -/
abbrev tLoc (d : Dev nD) : Loc nD τ sig := (SparseCore.T d).loc main_v6
abbrev iLoc (d : Dev nD) : Loc nD τ sig := (SparseCore.T d).loc main_v5
abbrev oLoc (d : Dev nD) : Loc nD τ sig := (SparseCore.T d).loc main_v7

/-- The place of code `n` in the list of codes. -/
def codeIx (n : Fin 16384) : S16384.Idx := fun | 0 => n

/-- Row `n` of the table, at the other coordinates of `j`. -/
def rowIx (n : Fin 1296) (j : S16384x2x128.Idx) : S1296x2x128.Idx := fun | 0 => n | 1 => j 1 | 2 => j 2

/-- THE GATHERED ROWS: row `j` is the table's row named by code `j`. (The remainder only makes the
    row a row for every word; a code in range is its own remainder.) -/
def gath {α : Type} (tb : S1296x2x128.Idx → α) (ix : S16384.Idx → BitVec 32) : S16384x2x128.Idx → α := fun j =>
  tb (rowIx ⟨(ix (codeIx (j 0))).toNat % 1296, Nat.mod_lt _ (by decide)⟩ j)

/-! ## Blocks of the result, and shares of what is only read -/

theorem odiv : 128 ∣ S16384x2x128.size 0 := ⟨128, rfl⟩

/-- Which of the 128 blocks of 128 rows chunk `r` of tile `s` of SparseCore `c` is. -/
def blkNo (k : Fin 2 × Fin 16 × Fin 4) : Fin 128 := ⟨8 * k.2.1.val + 4 * k.1.val + k.2.2.val, by omega⟩

theorem blkNo_injective : Function.Injective blkNo := by
  intro ⟨c, s, r⟩ ⟨c', s', r'⟩ h
  have h' : 8 * s.val + 4 * c.val + r.val = 8 * s'.val + 4 * c'.val + r'.val := congrArg Fin.val h
  ext <;> simp <;> omega

theorem blkNo_surjective : Function.Surjective blkNo := fun n =>
  ⟨(⟨n.val / 4 % 2, by omega⟩, ⟨n.val / 8, by omega⟩, ⟨n.val % 4, by omega⟩), Fin.ext (by simp only [blkNo]; omega)⟩

/-- The rows of one block. -/
abbrev oBlk (c : Fin 2) (s : Fin 16) (r : Fin 4) : Rect S16384x2x128 := Rect.part (s := S16384x2x128) (a₀ := 0) odiv (blkNo (c, s, r))
abbrev oBlkSet (c : Fin 2) (s : Fin 16) (r : Fin 4) : Finset S16384x2x128.Idx :=
  ((Memref.whole main_v7_scv : Memref sig .scVector .hbm S16384x2x128 .f32).view.slice (oBlk c s r)).set

/-- The share of the table and of the codes that tile `s` of SparseCore `c` reads under. -/
abbrev tq (c : Fin 2) (s : Fin 16) : PosShare TreeShare := pieceOf fullShare 32 (by decide) (finProdFinEquiv (c, s))

variable [FloatOps F]

/-! ## What the handshakes carry -/

/-- What one tile is handed: its share of the table `tb`, its share of the codes `ix`, and its four
    blocks of the result, at contents `o`. -/
def tilePts (tb : (d : Dev nD) → Buf (Elt F) (tLoc d)) (ix : (d : Dev nD) → Buf (Elt F) (iLoc d)) (o : (d : Dev nD) → Buf (Elt F) (oLoc d))
    (d : Dev nD) (c : Fin 2) (s : Fin 16) : sProp 𝕄 :=
  iprop((tLoc d ↦{tq c s} tb d) ∗ (iLoc d ↦{tq c s} ix d)
    ∗ (oLoc d ↦[oBlkSet c s 0]{fullShare} o d) ∗ (oLoc d ↦[oBlkSet c s 1]{fullShare} o d)
    ∗ (oLoc d ↦[oBlkSet c s 2]{fullShare} o d) ∗ (oLoc d ↦[oBlkSet c s 3]{fullShare} o d))

/-- The gathered rows of the table at the codes, as contents of the result array. -/
def gathBuf (tb : (d : Dev nD) → Buf (Elt F) (tLoc d)) (ix : (d : Dev nD) → Buf (Elt F) (iLoc d)) (d : Dev nD) : Buf (Elt F) (oLoc d) :=
  (gath (α := F .f32) (tb d) (ix d) : S16384x2x128.Idx → F .f32)

instance tilePts_storable (tb : (d : Dev nD) → Buf (Elt F) (tLoc d)) (ix : (d : Dev nD) → Buf (Elt F) (iLoc d)) (o : (d : Dev nD) → Buf (Elt F) (oLoc d))
    (d : Dev nD) (c : Fin 2) (s : Fin 16) : BI.Storable (upEmb : UEmb _ 𝕄) (tilePts tb ix o d c s) := by
  unfold tilePts; infer_instance

/-- A SparseCore is handed what its sixteen tiles are, and hands back the same with the blocks of
    the result holding the gathered rows. -/
def P (tb : (d : Dev nD) → Buf (Elt F) (tLoc d)) (ix : (d : Dev nD) → Buf (Elt F) (iLoc d)) (o : (d : Dev nD) → Buf (Elt F) (oLoc d)) :
    (K (F := F)).Pay (nD := nD) (Val := Elt F) (Name := ℕ) (U := UU) where
  st := fun q d c => match q with | 0 => bigSep Finset.univ fun s : Fin 16 => tilePts tb ix o d c s
  dn := fun q d c => match q with | 0 => bigSep Finset.univ fun s : Fin 16 => tilePts tb ix (gathBuf tb ix) d c s
  go := fun q d c s => match q with | 0 => tilePts tb ix o d c s
  td := fun q d c s => match q with | 0 => tilePts tb ix (gathBuf tb ix) d c s
  x := fun _ _ => iprop(emp)

variable (tb : (d : Dev nD) → Buf (Elt F) (tLoc d)) (ix : (d : Dev nD) → Buf (Elt F) (iLoc d)) (o : (d : Dev nD) → Buf (Elt F) (oLoc d))

instance P_storable : (P tb ix o).IsStorable where
  st q d c := match q with
    | 0 => (inferInstance : BI.Storable (upEmb : UEmb _ 𝕄) (bigSep Finset.univ fun s : Fin 16 => tilePts tb ix o d c s))
  dn q d c := match q with
    | 0 => (inferInstance : BI.Storable (upEmb : UEmb _ 𝕄) (bigSep Finset.univ fun s : Fin 16 => tilePts tb ix (gathBuf tb ix) d c s))
  go q d c s := match q with | 0 => tilePts_storable tb ix o d c s
  td q d c s := match q with | 0 => tilePts_storable tb ix (gathBuf tb ix) d c s

/-- A SparseCore's tiles, whole, are what the SparseCore is handed. -/
theorem vecSplit : ∀ q d c, (P tb ix o).st q d c ⊢ |={Set.univ}=>
    iprop((bigSep Finset.univ fun s => (P tb ix o).go q d c s) ∗ ((bigSep Finset.univ fun s => (P tb ix o).td q d c s) -∗ (P tb ix o).dn q d c)) := by
  intro q d c
  match q with
  | 0 =>
    show (bigSep Finset.univ fun s : Fin 16 => tilePts tb ix o d c s) ⊢ |={Set.univ}=>
      iprop((bigSep Finset.univ fun s : Fin 16 => tilePts tb ix o d c s)
        ∗ ((bigSep Finset.univ fun s : Fin 16 => tilePts tb ix (gathBuf tb ix) d c s) -∗ bigSep Finset.univ fun s : Fin 16 => tilePts tb ix (gathBuf tb ix) d c s))
    iintro H
    imodintro
    isplitl [H]
    · iexact H
    · iintro H; iexact H

/-- The whole result array is its 128 blocks at once. -/
theorem oPts_blocks (d : Dev nD) (f : Buf (Elt F) (oLoc d)) :
    (oLoc d ↦{fullShare} f : sProp 𝕄)
      = bigSep Finset.univ fun c : Fin 2 => bigSep Finset.univ fun s : Fin 16 => bigSep Finset.univ fun r : Fin 4 => oLoc d ↦[oBlkSet c s r]{fullShare} f := by
  have hset : (Finset.univ : Finset S16384x2x128.Idx) = (Finset.univ : Finset (Fin 2 × Fin 16 × Fin 4)).biUnion fun k => oBlkSet k.1 k.2.1 k.2.2 := by
    refine Eq.symm (Finset.eq_univ_iff_forall.mpr fun i => ?_)
    obtain ⟨n, hn⟩ := Rect.exists_mem_part (s := S16384x2x128) (a₀ := 0) odiv i
    obtain ⟨k, rfl⟩ := blkNo_surjective n
    exact Finset.mem_biUnion.mpr ⟨k, Finset.mem_univ _, by
      show i ∈ ((View.whole main_v7_scv).slice (oBlk k.1 k.2.1 k.2.2)).set
      rw [View.set_slice_whole]; exact hn⟩
  have hd : ∀ k ∈ (Finset.univ : Finset (Fin 2 × Fin 16 × Fin 4)), ∀ k' ∈ (Finset.univ : Finset (Fin 2 × Fin 16 × Fin 4)), k ≠ k' →
      Disjoint (oBlkSet k.1 k.2.1 k.2.2) (oBlkSet k'.1 k'.2.1 k'.2.2) := by
    intro k _ k' _ h
    show Disjoint ((View.whole main_v7_scv).slice (oBlk k.1 k.2.1 k.2.2)).set ((View.whole main_v7_scv).slice (oBlk k'.1 k'.2.1 k'.2.2)).set
    rw [View.set_slice_whole, View.set_slice_whole]
    exact Rect.part_disjoint odiv fun e => h (blkNo_injective e)
  have h : (oLoc d ↦[(Finset.univ : Finset (Fin 2 × Fin 16 × Fin 4)).biUnion fun k => oBlkSet k.1 k.2.1 k.2.2]{fullShare} f : sProp 𝕄)
      = bigSep Finset.univ fun k : Fin 2 × Fin 16 × Fin 4 => oLoc d ↦[oBlkSet k.1 k.2.1 k.2.2]{fullShare} f :=
    pointsTo_biUnion (ℓ := oLoc d) Finset.univ (fun k : Fin 2 × Fin 16 × Fin 4 => oBlkSet k.1 k.2.1 k.2.2) hd
  rw [← hset] at h
  refine Eq.trans h ?_
  rw [bigSep_univ_prod]
  refine bigSep_congr fun c _ => ?_
  rw [bigSep_univ_prod]

/-- An array held whole is the tiles' thirty-two shares of it at once. -/
theorem pts_shares {ℓ : Loc nD τ sig} (f : Buf (Elt F) ℓ) :
    (ℓ ↦{fullShare} f : sProp 𝕄) = bigSep Finset.univ fun c : Fin 2 => bigSep Finset.univ fun s : Fin 16 => ℓ ↦{tq c s} f := by
  rw [pointsTo_piecesOf Finset.univ f (o := 32) (by decide) fullShare, bigSep_univ_equiv (finProdFinEquiv (m := 2) (n := 16)), bigSep_univ_prod]

/-- The three arrays whole are what all the tiles are handed. -/
theorem pts_tiles (d : Dev nD) :
    (iprop((tLoc d ↦{fullShare} tb d) ∗ (iLoc d ↦{fullShare} ix d) ∗ (oLoc d ↦{fullShare} o d)) : sProp 𝕄)
      = bigSep Finset.univ fun c : Fin 2 => bigSep Finset.univ fun s : Fin 16 => tilePts tb ix o d c s := by
  rw [pts_shares (tb d), pts_shares (ix d), oPts_blocks, ← bigSep_sep', ← bigSep_sep']
  refine bigSep_congr fun c _ => ?_
  rw [← bigSep_sep', ← bigSep_sep']
  refine bigSep_congr fun s _ => ?_
  unfold tilePts
  congr 2
  rw [bigSep_univ_succ, bigSep_univ_succ, bigSep_univ_succ]
  congr 3
  exact bigSep_univ_of_subsingleton (0 : Fin 1)

end Cert.Proof.Whole
-- ==== Proof.Whole.Chunk.lean ====
/-
  What one tile's task works on: its own names for the table, the codes, the result and its scratch,
  and what a gathered chunk holds: the table's rows that the chunk's codes name.
-/
module

public import proofs.«01_k».proof.Proof.Whole.Setup

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's own names -/

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)
abbrev VT (d : Dev nD) (L : grid1.Coords) : Thread nD τ := V d (cV L) (jV L)

abbrev tV : Memref sig .scVector .hbm S1296x2x128 .f32 := Memref.whole main_v6_scv
abbrev iV : Memref sig .scVector .hbm S16384 .i32 := Memref.whole main_v5_scv
abbrev oV : Memref sig .scVector .hbm S16384x2x128 .f32 := Memref.whole main_v7_scv

/-- The table whole as the task addresses it, chunk `r` of its codes, and chunk `r` of its rows. -/
abbrev tAll : Memref sig .scVector .hbm S1296x2x128 .f32 :=
  (tV).slice (Rect.unit (s := S1296x2x128) ![0, 0, 0] S1296x2x128.size inb_S1296x2x128_S1296x2x128_0_0_0) (fun _ => rfl)
abbrev iChunk (L : grid1.Coords) (r : Fin 4) : Memref sig .scVector .hbm S128 .i32 :=
  (iV).slice (Rect.unit (s := S16384) (k1_off1 L (BitVec.ofNat 32 (128 * r.val))) S128.size (k1_off1_inb L r)) (fun _ => rfl)
abbrev oRect (L : grid1.Coords) (r : Fin 4) : Rect S16384x2x128 :=
  Rect.unit (s := S16384x2x128) (k1_off2 L (BitVec.ofNat 32 (128 * r.val))) S128x2x128.size (k1_off2_inb L r)
abbrev oChunk (L : grid1.Coords) (r : Fin 4) : Memref sig .scVector .hbm S128x2x128 .f32 := (oV).slice (oRect L r) (fun _ => rfl)

theorem oRect_eq (L : grid1.Coords) (r : Fin 4) : oRect L r = oBlk (cL L) (jL L) r := by
  unfold oRect oBlk Rect.part Rect.block
  congr 1 <;> funext a
  · rw [k1_off2_eq]
    match a with
    | 0 => simp [Shape.partIx, Shape.partSize, blkNo]; omega
    | 1 => simp [Shape.partIx, Shape.partSize]
    | 2 => simp [Shape.partIx, Shape.partSize]
  · match a with
    | 0 => simp [Shape.partSize]
    | 1 => simp [Shape.partSize]
    | 2 => simp [Shape.partSize]

theorem set_oChunk (L : grid1.Coords) (r : Fin 4) : (oChunk L r).view.set = oBlkSet (cL L) (jL L) r := by
  show ((oV).view.slice (oRect L r)).set = ((oV).view.slice (oBlk (cL L) (jL L) r)).set
  exact oRect_eq L r ▸ rfl

variable (d : Dev nD) (L : grid1.Coords)

theorem pts_oChunk (r : Fin 4) (f : Buf (Elt F) (oLoc d)) :
    ((oChunk L r).view.loc (VT d L) ↦[(oChunk L r).view.set]{fullShare} f : sProp 𝕄) = oLoc d ↦[oBlkSet (cL L) (jL L) r]{fullShare} f := by
  rw [set_oChunk]

/-! ## The tile's scratch buffers and its eight transfer cells -/

abbrev csem (k : Fin 8) : DmaSem sig := (⟨6 + k.val, by omega⟩ : Fin 14)
theorem csem_inj : ∀ a b : Fin 8, csem a = csem b → a = b := by decide
abbrev cell (k : Fin 8) : GSem nD τ sig := (VT d L, .dma (csem k))
abbrev sref (k : Fin 4) : Ref sig .scVector := ⟨.vmem, k, rfl⟩

/-- The tile's cells at zero: the eight the task waits on, one by one, and the rest. -/
theorem ownSems0_V :
    (ownSems0 (VT d L) : sProp 𝕄)
      = iprop((semVal (cell d L 0) 0 ∗ semVal (cell d L 1) 0 ∗ semVal (cell d L 2) 0 ∗ semVal (cell d L 3) 0
            ∗ semVal (cell d L 4) 0 ∗ semVal (cell d L 5) 0 ∗ semVal (cell d L 6) 0 ∗ semVal (cell d L 7) 0)
          ∗ bigSep ((ownCells (VT d L)) \ Finset.univ.image (cell d L)) fun g => semVal g 0) := by
  unfold SparseCore.Cfg.ownSems0
  rw [SparseCore.bigSep_sdiff_split' (t := Finset.univ.image (cell d L))
      (Finset.image_subset_iff.mpr fun k _ =>
        mem_ownCells.mpr ⟨rfl, (show ∀ s : DmaSem sig, (SemLoc.dma s : SemLoc sig).isScoped .scVector = true by decide) _⟩),
    SparseCore.bigSep_image_of_injOn (fun a _ b _ h => by
      have := congrArg (fun g : GSem nD τ sig => g.2) h
      exact csem_inj a b (SemLoc.dma.inj this))]
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The tile's buffers: its four scratch buffers, one by one, and the rest. -/
theorem ownBufs_V :
    (ownBufs (VT d L) : sProp 𝕄)
      = iprop(((∃ f, (VT d L).loc cc1_scratch0 ↦{fullShare} f) ∗ (∃ f, (VT d L).loc cc1_scratch1 ↦{fullShare} f)
            ∗ (∃ f, (VT d L).loc cc1_scratch2 ↦{fullShare} f) ∗ (∃ f, (VT d L).loc cc1_scratch3 ↦{fullShare} f))
          ∗ bigSep ((ownRefs (τ := τ) (.scVector (cV L) (jV L))) \ Finset.univ.image fun k => (Proc.scVector (cV L) (jV L)).devRef (sref k))
              fun b => iprop(∃ f, ((d, b) : Loc nD τ sig) ↦{fullShare} f)) := by
  unfold SparseCore.Cfg.ownBufs
  refine (SparseCore.bigSep_sdiff_split' (t := Finset.univ.image fun k => (Proc.scVector (cV L) (jV L)).devRef (sref k))
      (Finset.image_subset_iff.mpr fun k _ =>
        SparseCore.Cfg.mem_ownRefs_of_owner (p := Proc.scVector (cV L) (jV L)) (b := (Proc.scVector (cV L) (jV L)).devRef (sref k)) rfl)).trans ?_
  rw [SparseCore.bigSep_image_of_injOn (fun a _ b _ h =>
      (show ∀ a b : Fin 4, sref a = sref b → a = b by decide) a b (Proc.devRef_injective _ h)),
    show (Finset.univ : Finset (Fin 4)) = {0, 1, 2, 3} by decide,
    SparseCore.bigSep_insert' (by decide), SparseCore.bigSep_insert' (by decide), SparseCore.bigSep_insert' (by decide), bigSep_singleton]

variable [FloatOps F]
variable (tb : (d : Dev nD) → Buf (Elt F) (tLoc d)) (ix : (d : Dev nD) → Buf (Elt F) (iLoc d)) (o : (d : Dev nD) → Buf (Elt F) (oLoc d))

/-- Every code names a row of the table. -/
def InRows : Prop := ∀ (d : Dev nD) (j : S16384.Idx), (ix d j : BitVec 32).toNat < 1296

/-- The codes of a chunk, as the gather reads them from the first index buffer once they are copied there, name rows. -/
theorem inb0 (h : InRows ix) (r : Fin 4) (p : S128.Idx → BitVec 32) (hp : p = (iChunk L r).view.read (Elt F) (ix d))
    (f : Buf (Elt F) ((VT d L).loc cc1_scratch0)) :
    ∀ x, ((Memref.whole cc1_scratch0 : Memref sig .scVector .vmem S128 .i32).view.read (Elt F)
      (View.write (Elt F) (Memref.whole cc1_scratch0 : Memref sig .scVector .vmem S128 .i32).view f p Finset.univ) x).toNat
        < S1296x2x128.size gathers_S1296x2x128_S128x2x128.axis := by
  subst hp; intro x
  rw [View.write_whole_univ]
  simp only [Memref.view_whole, View.read_whole]
  exact h d _

/-- The same of the second index buffer. -/
theorem inb1 (h : InRows ix) (r : Fin 4) (p : S128.Idx → BitVec 32) (hp : p = (iChunk L r).view.read (Elt F) (ix d))
    (f : Buf (Elt F) ((VT d L).loc cc1_scratch1)) :
    ∀ x, ((Memref.whole cc1_scratch1 : Memref sig .scVector .vmem S128 .i32).view.read (Elt F)
      (View.write (Elt F) (Memref.whole cc1_scratch1 : Memref sig .scVector .vmem S128 .i32).view f p Finset.univ) x).toNat
        < S1296x2x128.size gathers_S1296x2x128_S128x2x128.axis := by
  subst hp; intro x
  rw [View.write_whole_univ]
  simp only [Memref.view_whole, View.read_whole]
  exact h d _

/-! ## What a chunk's rows are -/

theorem unit_row (k : Fin (S128.numel)) : (S128.rowMajor.symm k 0).val = k.val := by
  have h : (S128.rowMajor (S128.rowMajor.symm k)).val = k.val := by rw [Equiv.apply_symm_apply]
  rw [← h]
  show _ = (Shape.rowMajorPi S128.size (S128.rowMajor.symm k)).val
  rw [Shape.rowMajorPi_succ_val]
  simp [Shape.rowMajorPi, Shape.rankPi]

/-- The rows the gather takes for chunk `r` are the table's rows named by the chunk's codes: what
    the result array is to hold at the chunk's block. -/
theorem gather_chunk (h : InRows ix) (r : Fin 4) (w : S128.Idx → BitVec 32) (hw : w = (iChunk L r).view.read (Elt F) (ix d))
    (hn : S128.numel = S128x2x128.size gathers_S1296x2x128_S128x2x128.axis')
    (hin : ∀ x, (w x).toNat < S1296x2x128.size gathers_S1296x2x128_S128x2x128.axis) :
    SparseCore.gatherPayload (F := F) (e := .f32) gathers_S1296x2x128_S128x2x128 ((tAll).view.read (Elt F) (tb d)) (SparseCore.rows (F := F) w hn hin)
      = (oChunk L r).view.read (Elt F) (gathBuf tb ix d) := by
  subst hw
  funext y
  rw [show (oChunk L r).view.read (Elt F) (gathBuf tb ix d) y = gathBuf tb ix d ((oChunk L r).view.emb y) from (View.read_apply _ _).trans (cast_eq _ _)]
  show (tAll).view.read (Elt F) (tb d) (gathers_S1296x2x128_S128x2x128.idx _ y) = _
  rw [show ∀ z, (tAll).view.read (Elt F) (tb d) z = tb d ((tAll).view.emb z) from fun z => (View.read_apply _ _).trans (cast_eq _ _)]
  show tb d _ = tb d _
  congr 1
  funext a
  apply Fin.ext
  have h0 : k1_off2 L (BitVec.ofNat 32 (128 * r.val)) 0 = k1_off1 L (BitVec.ofNat 32 (128 * r.val)) 0 := by
    rw [k1_off2_eq, k1_off1_eq]; rfl
  match a with
  | 0 =>
    have e : ((iChunk L r).view.emb (S128.rowMajor.symm ((y 0).cast hn.symm)) : S16384.Idx) = codeIx (((oChunk L r).view.emb y : S16384x2x128.Idx) 0) := by
      funext a
      match a with
      | 0 =>
        apply Fin.ext
        show k1_off1 L (BitVec.ofNat 32 (128 * r.val)) 0 + 1 * (S128.rowMajor.symm ((y 0).cast hn.symm) 0).val = k1_off2 L (BitVec.ofNat 32 (128 * r.val)) 0 + 1 * (y 0).val
        rw [unit_row, h0]; rfl
    change 0 + 1 * ((iChunk L r).view.read (Elt F) (ix d) (S128.rowMajor.symm ((y 0).cast hn.symm))).toNat
      = (ix d (codeIx (((oChunk L r).view.emb y : S16384x2x128.Idx) 0))).toNat % 1296
    rw [show (iChunk L r).view.read (Elt F) (ix d) (S128.rowMajor.symm ((y 0).cast hn.symm)) = ix d ((iChunk L r).view.emb (S128.rowMajor.symm ((y 0).cast hn.symm)))
      from (View.read_apply _ _).trans (cast_eq _ _), e, Nat.mod_eq_of_lt (h d _)]
    omega
  | 1 =>
    show 0 + 1 * (y 1).val = k1_off2 L (BitVec.ofNat 32 (128 * r.val)) 1 + 1 * (y 1).val
    rw [k1_off2_eq]; rfl
  | 2 =>
    show 0 + 1 * (y 2).val = k1_off2 L (BitVec.ofNat 32 (128 * r.val)) 2 + 1 * (y 2).val
    rw [k1_off2_eq]; rfl

/-- A buffer written whole last reads as what was written last. -/
theorem read_last {κ : Kind} {sp : Space} {s : Shape} {e : EltTy} (v : View sig κ sp s e) (f : v.ty.Contents (Elt F)) (p : s.Idx → Elt F e)
    (l : List (View.Piece (Elt F) s e)) : v.read (Elt F) (v.writes (Elt F) f (⟨Rect.whole s, p⟩ :: l)) = p := by
  funext y
  have h := View.read_writes_cons_emb v f (Rect.whole s) p l y
  rwa [Rect.emb_whole_apply] at h

/-- A block of the result written whole with the rows of `g` there holds `g` there. -/
theorem writes_chunk (r : Fin 4) (f g : Buf (Elt F) (oLoc d)) (p : S128x2x128.Idx → F .f32) (hp : p = (oChunk L r).view.read (Elt F) g) :
    ((oChunk L r).view.loc (VT d L) ↦[(oChunk L r).view.set]{fullShare} (oChunk L r).view.writes (Elt F) f [⟨Rect.whole S128x2x128, p⟩] : sProp 𝕄)
      = (oChunk L r).view.loc (VT d L) ↦[(oChunk L r).view.set]{fullShare} g := by
  refine pointsTo_congr fun i hi => ?_
  obtain ⟨y, -, rfl⟩ := Finset.mem_map.mp hi
  have e : (oChunk L r).view.read (Elt F) ((oChunk L r).view.writes (Elt F) f [⟨Rect.whole S128x2x128, p⟩]) y = (oChunk L r).view.read (Elt F) g y :=
    congrFun ((View.read_writes_whole (Val := Elt F) (oChunk L r).view f p).trans hp) y
  exact ((View.read_apply _ _).trans (cast_eq _ _)).symm.trans (e.trans ((View.read_apply _ _).trans (cast_eq _ _)))

end Cert.Proof.Whole
-- ==== Proof.Whole.Tile.lean ====
/-
  One tile's task: four chunks of 128 codes, each chunk's codes copied in, the rows they name
  gathered out of the table, and the rows copied out to the chunk's block of the result. The task is
  run once, at a symbolic tile, with what the blocks hold at the end stated exactly.
-/
module

public import proofs.«01_k».proof.Proof.Whole.Chunk

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords)
variable [FloatOps F]
variable (tb : (d : Dev nD) → Buf (Elt F) (tLoc d)) (ix : (d : Dev nD) → Buf (Elt F) (iLoc d)) (o : (d : Dev nD) → Buf (Elt F) (oLoc d))

set_option maxHeartbeats 4000000 in
theorem tile_body (hF : (K (F := F)).Facts) (h : InRows ix) (O : CellTallies nD τ sig (HIx 1)) (W : Waits sig (HIx 1)) (hO : ∀ g, O g none = 0) :
    iprop(levAts (K (F := F)).L (K (F := F)).lev ∗ emp
        ∗ tilePts tb ix o d (cL L) (jL L)
        ∗ scopedBufs (VT d L) ∗ scopedSems0 (VT d L) ∗ owes (VT d L) O W)
      ⊢ wp frame (wpE (defs₀ (F := F)) 𝒱₀ (VT d L) none) Set.univ
          (cc1_gather_k L (Memref.whole main_v6_scv) (Memref.isWhole_whole _) (Memref.whole main_v5_scv) (Memref.isWhole_whole _) (Memref.whole main_v7_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scratch6 cc1_scratch7 cc1_scoped0 cc1_scoped1 cc1_scoped2 cc1_scoped3)
          fun _ => iprop(tilePts tb ix (gathBuf tb ix) d (cL L) (jL L)
            ∗ scopedBufs (VT d L) ∗ scopedSems0 (VT d L)
            ∗ ∃ W', ⌜∀ p ∈ W', p ∈ W ∨ p.2 = none⌝ ∗ owes (VT d L) O W') := by
  simp only [cc1_gather_k_eq_skeleton, k1_part1_eq_skeleton, k1_part2_eq_skeleton]; unfold cc1_gather_k_skel
  simp only [k1_part1_eq_skeleton, k1_part2_eq_skeleton]; unfold k1_part1_skel k1_part2_skel
  rw [(K (F := F)).scopedBufs_V hF d (cV L) (jV L), SparseCore.Cfg.scopedSems0_V (Val := Elt F) d (cV L) (jV L), ownSems0_V, ownBufs_V]
  unfold tilePts
  rw [← pts_oChunk (F := F) d L 0, ← pts_oChunk (F := F) d L 1, ← pts_oChunk (F := F) d L 2, ← pts_oChunk (F := F) d L 3,
    ← pts_oChunk (F := F) d L 0, ← pts_oChunk (F := F) d L 1, ← pts_oChunk (F := F) d L 2, ← pts_oChunk (F := F) d L 3]
  iintro ⟨#Hlv, -, ⟨Ht, Hi, Ho0, Ho1, Ho2, Ho3⟩, ⟨⟨⟨%f0, H0⟩, ⟨%f1, H1⟩, ⟨%f2, H2⟩, ⟨%f3, H3⟩⟩, Hbufs⟩, ⟨⟨Hc0, Hc1, Hc2, Hc3, Hc4, Hc5, Hc6, Hc7⟩, Hsems⟩, HO⟩
  ihave Hmw := (show levAts (K (F := F)).L (K (F := F)).lev ⊢ Transfers.MayWaits (VT d L) (default : HIx 1) O from
    (K (F := F)).mayWaits_none (thr := VT d L) hO) $$ Hlv
  ihave Ht := (Entails.of_eq (show (tLoc d ↦{tq (cL L) (jL L)} tb d : sProp 𝕄) = (Memref.whole main_v6_scv : Memref sig .scVector .hbm S1296x2x128 .f32).view.loc (VT d L) ↦{tq (cL L) (jL L)} tb d from rfl)) $$ Ht
  ihave Hi := (Entails.of_eq (show (iLoc d ↦{tq (cL L) (jL L)} ix d : sProp 𝕄) = (Memref.whole main_v5_scv : Memref sig .scVector .hbm S16384 .i32).view.loc (VT d L) ↦{tq (cL L) (jL L)} ix d from rfl)) $$ Hi
  ihave H0 := (Entails.of_eq (show ((VT d L).loc cc1_scratch0 ↦{fullShare} f0 : sProp 𝕄) = (Memref.whole cc1_scratch0 : Memref sig .scVector .vmem S128 .i32).view.loc (VT d L) ↦{fullShare} f0 from rfl)) $$ H0
  ihave H1 := (Entails.of_eq (show ((VT d L).loc cc1_scratch1 ↦{fullShare} f1 : sProp 𝕄) = (Memref.whole cc1_scratch1 : Memref sig .scVector .vmem S128 .i32).view.loc (VT d L) ↦{fullShare} f1 from rfl)) $$ H1
  ihave H2 := (Entails.of_eq (show ((VT d L).loc cc1_scratch2 ↦{fullShare} f2 : sProp 𝕄) = (Memref.whole cc1_scratch2 : Memref sig .scVector .vmem S128x2x128 .f32).view.loc (VT d L) ↦{fullShare} f2 from rfl)) $$ H2
  ihave H3 := (Entails.of_eq (show ((VT d L).loc cc1_scratch3 ↦{fullShare} f3 : sProp 𝕄) = (Memref.whole cc1_scratch3 : Memref sig .scVector .vmem S128x2x128 .f32).view.loc (VT d L) ↦{fullShare} f3 from rfl)) $$ H3
  sl_exec
  have hin0 := inb0 d L ix h 0 (tile_body.sl.dma0 d L ix) rfl
  sl_exec
  have hin1 := inb1 d L ix h 1 (tile_body.sl.dma0_2 d L ix) rfl
  sl_exec
  have hin2 := inb0 d L ix h 2 (tile_body.sl.dma0_4 d L ix) rfl
  sl_exec
  have hin3 := inb1 d L ix h 3 (tile_body.sl.dma0_6 d L ix) rfl
  sl_exec
  sl_step
  -- what each chunk's write-back carries
  have e0 : tile_body.sl.dma0_1 d L tb ix f0 f2 hin0 = (oChunk L 0).view.read (Elt F) (gathBuf tb ix d) := by
    unfold tile_body.sl.dma0_1 tile_body.sl.gather0
    refine (read_last _ _ _ _).trans (gather_chunk d L tb ix h 0 _ ?_ _ _)
    rw [View.write_whole_univ]; rfl
  have e1 : tile_body.sl.dma0_3 d L tb ix f1 f3 hin1 = (oChunk L 1).view.read (Elt F) (gathBuf tb ix d) := by
    unfold tile_body.sl.dma0_3 tile_body.sl.gather0_1
    refine (read_last _ _ _ _).trans (gather_chunk d L tb ix h 1 _ ?_ _ _)
    rw [View.write_whole_univ]; rfl
  have e2 : tile_body.sl.dma0_5 d L tb ix f0 f2 hin0 hin2 = (oChunk L 2).view.read (Elt F) (gathBuf tb ix d) := by
    unfold tile_body.sl.dma0_5 tile_body.sl.gather0_2
    refine (read_last _ _ _ _).trans (gather_chunk d L tb ix h 2 _ ?_ _ _)
    rw [View.write_whole_univ]; rfl
  have e3 : tile_body.sl.dma0_7 d L tb ix f1 f3 hin1 hin3 = (oChunk L 3).view.read (Elt F) (gathBuf tb ix d) := by
    unfold tile_body.sl.dma0_7 tile_body.sl.gather0_3
    refine (read_last _ _ _ _).trans (gather_chunk d L tb ix h 3 _ ?_ _ _)
    rw [View.write_whole_univ]; rfl
  ihave Ho0 := (Entails.of_eq (writes_chunk d L 0 _ _ _ e0)) $$ Ho0
  ihave Ho1 := (Entails.of_eq (writes_chunk d L 1 _ _ _ e1)) $$ Ho1
  ihave Ho2 := (Entails.of_eq (writes_chunk d L 2 _ _ _ e2)) $$ Ho2
  ihave Ho3 := (Entails.of_eq (writes_chunk d L 3 _ _ _ e3)) $$ Ho3
  isplitl [Ht Hi Ho0 Ho1 Ho2 Ho3]
  · isplitl [Ht]; · iexact Ht
    isplitl [Hi]; · iexact Hi
    isplitl [Ho0]; · iexact Ho0
    isplitl [Ho1]; · iexact Ho1
    isplitl [Ho2]; · iexact Ho2
    iexact Ho3
  isplitl [H0 H1 H2 H3 Hbufs]
  · isplitr [Hbufs]
    · isplitl [H0]; · iexists _; iexact H0
      isplitl [H1]; · iexists _; iexact H1
      isplitl [H2]; · iexists _; iexact H2
      iexists _; iexact H3
    · iexact Hbufs
  isplitl [Hc0 Hc1 Hc2 Hc3 Hc4 Hc5 Hc6 Hc7 Hsems]
  · isplitr [Hsems]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      iexact Hc7
    · iexact Hsems
  iexists _; isplitr
  swap; · iexact HO
  ipureintro; intro p hp
  simp only [Finset.mem_insert] at hp
  rcases hp with hp | hp | hp | hp | hp | hp | hp | hp | hp | hp | hp | hp | hp <;> first | exact .inr (hp ▸ rfl) | exact .inl hp

end Cert.Proof.Whole
-- ==== Proof.Whole.Body.lean ====
/-
  The nearest-row call of the whole kernel, one grid point: the body on its staging buffers, and the
  data by which the pipeline runs it over the thirty-two blocks of rows.
-/
module

public import proofs.«01_k».proof.Proof.Whole.Setup
public import Idealize.ShloMosaic.Lib.Pipeline.FrameBody
public import Idealize.ShloMosaic.Lib.Pipeline.RegionArraysS
public import Idealize.ShloMosaic.Lib.WordCmp
public import Idealize.ShloMosaic.Lib.Pipeline.Value

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (T)
open Idealize.ShloMosaic.SparseCore.Cfg (HIx)
open Idealize.ShloMosaic.Pipeline (Dat arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body -/

theorem off2_zero : (![0, 0] : Fin 2 → Nat) = fun _ => 0 := by funext a; fin_cases a <;> rfl
theorem off3_zero : (![0, 0, 0] : Fin 3 → Nat) = fun _ => 0 := by funext a; fin_cases a <;> rfl

/-- The rectangle of the one store: all of the block of codes. -/
abbrev codesRect : Rect S1x1x512 := Rect.unit (s := S1x1x512) ![0, 0, 0] S1x1x512.size inb_S1x1x512_S1x1x512_0_0_0

/-- That store leaves exactly what it stores. -/
theorem stored_codes (b : Memref sig .tc .vmem S1x1x512 .i32) (hb : b.IsWhole) (c : Dev nD) (f : Buf (Elt F) (b.view.loc (c : Thread nD τ))) (v : Vec F S1x1x512 .i32) :
    b.view.read (Elt F) (b.view.writes (Elt F) f [⟨codesRect, v⟩]) = v :=
  (View.read_writes_eq_canon _ _ _ fun y => View.cover_of_tiled [⟨codesRect, v⟩] S1x1x512.size (by rfl) y).trans (View.canon_unit_zero off3_zero _ v)

set_option maxHeartbeats 1000000 in
/-- From a block of rows, the table and its squared norms, the body writes the block's codes and leaves what it reads. -/
theorem body_codes (c : Dev nD) (i : grid0.Coords)
    (bx : Memref sig .tc .vmem S512x256 .f32) (hbx : bx.IsWhole) (be : Memref sig .tc .vmem S1296x256 .f32) (hbe : be.IsWhole)
    (bn : Memref sig .tc .vmem S1x1296 .f32) (hbn : bn.IsWhole) (bo : Memref sig .tc .vmem S1x1x512 .i32) (hbo : bo.IsWhole)
    (x : Vec F S512x256 .f32) (e : Vec F S1296x256 .f32) (n : Vec F S1x1296 .f32) :
    (iprop(owns (c : Thread nD τ) bx fullShare x ∗ owns (c : Thread nD τ) be fullShare e ∗ owns (c : Thread nD τ) bn fullShare n
        ∗ ∃ v, owns (c : Thread nD τ) bo fullShare v) : sProp 𝕄)
      ⊢ wp frame (wpE (defs₀ (F := F)) 𝒱₀ c none) Set.univ (cc0__vq_body i bx hbx be hbe bn hbn bo hbo) fun _ =>
        iprop(owns (c : Thread nD τ) bx fullShare x ∗ owns (c : Thread nD τ) be fullShare e ∗ owns (c : Thread nD τ) bn fullShare n
          ∗ owns (c : Thread nD τ) bo fullShare (k0_pay1 x e n)) := by
  simp only [cc0__vq_body_eq_skeleton]; unfold cc0__vq_body_skel
  unfold owns
  iintro ⟨⟨%fx, %hx, Hx⟩, ⟨%fe, %he, He⟩, ⟨%fn, %hn, Hn⟩, ⟨%v, %fo, -, Ho⟩⟩
  subst hx he hn
  sl_exec
  sl_step
  isplitl [Hx]
  · iexists fx; isplitr; · ipureintro; rfl
    iexact Hx
  isplitl [He]
  · iexists fe; isplitr; · ipureintro; rfl
    iexact He
  isplitl [Hn]
  · iexists fn; isplitr; · ipureintro; rfl
    iexact Hn
  iexists _; isplitr
  swap; · iexact Ho
  ipureintro
  refine (stored_codes bo hbo c _ _).trans ?_
  show k0_pay1 (View.ld (bx.view.read (Elt F) fx) (Rect.unit (s := S512x256) ![0, 0] S512x256.size inb_S512x256_S512x256_0_0))
      (View.ld (be.view.read (Elt F) fe) (Rect.unit (s := S1296x256) ![0, 0] S1296x256.size inb_S1296x256_S1296x256_0_0))
      (View.ld (bn.view.read (Elt F) fn) (Rect.unit (s := S1x1296) ![0, 0] S1x1296.size inb_S1x1296_S1x1296_0_0)) = _
  rw [View.ld_unit_zero off2_zero, View.ld_unit_zero off2_zero, View.ld_unit_zero off2_zero]

/-! ## The pipeline's data -/

variable (V : Dev nD → Valuation τ sig (Elt F))

/-- What window `w` shows at point `t` of an array as the call finds it. -/
def shown (c : Dev nD) (w : Fin cfg0.W) (t : Fin cfg0.N) : ((cfg0.win w).xblock (cfg0.grid.coords t)).Idx → Elt F (cfg0.win w).elt :=
  ((cfg0.win w).blk t).view.read (Elt F) (V c (Proc.devRef .tc (arrRef spec0 w)))

/-- The codes written at point `t`. -/
def codesAt (c : Dev nD) (t : Fin cfg0.N) : Vec F S1x1x512 .i32 := k0_pay1 (shown V c 0 t) (shown V c 1 t) (shown V c 2 t)

/-- The call's data on device `c`, its arrays found at `V`: what is read stays, each block of codes is
    written from the blocks shown; meanwhile the starts of the gather are owed, and every wait
    recorded before sits at level zero. -/
def dat (c : Dev nD) : Dat τ (Elt F) (HIx 1) ℕ UU ℕ cfg0 c where
  A w := V c (Proc.devRef .tc (arrRef spec0 w))
  after w t := match w with
    | ⟨0, _⟩ => shown V c 0 t
    | ⟨1, _⟩ => shown V c 1 t
    | ⟨2, _⟩ => shown V c 2 t
    | ⟨3, _⟩ => codesAt V c t
  Φ _ := Pipeline.scopedRest spec0 c
  q _ := fullShare
  owed _ := (K (F := F)).Otc c 0
  recorded _ := {p | (K (F := F)).lev (T c, p.1) p.2 ≤ 0}

theorem dat_A (c : Dev nD) (w : Fin cfg0.W) : (dat V c).A w = V c (Proc.devRef .tc (arrRef spec0 w)) := by dsimp only [dat]
theorem after_rows (c : Dev nD) (t : Fin cfg0.N) : (dat V c).after 0 t = shown V c 0 t := by dsimp only [dat]
theorem after_table (c : Dev nD) (t : Fin cfg0.N) : (dat V c).after 1 t = shown V c 1 t := by dsimp only [dat]
theorem after_norms (c : Dev nD) (t : Fin cfg0.N) : (dat V c).after 2 t = shown V c 2 t := by dsimp only [dat]
theorem after_codes (c : Dev nD) (t : Fin cfg0.N) : (dat V c).after 3 t = codesAt V c t := by dsimp only [dat]

/-- An input's buffer holds what its window shows, whether fetched at this point or kept from the last. -/
theorem found_rows (c : Dev nD) (t : Fin cfg0.N) (d) : (dat V c).before 0 t d = shown V c 0 t :=
  (dat V c).before_in_eq_fetched 0 rfl (fun _ => rfl) (fun _ _ _ => rfl) (fun t => by rw [after_rows]; rfl) t d
theorem found_table (c : Dev nD) (t : Fin cfg0.N) (d) : (dat V c).before 1 t d = shown V c 1 t :=
  (dat V c).before_in_eq_fetched 1 rfl (fun _ => rfl) (fun _ _ _ => rfl) (fun t => by rw [after_table]; rfl) t d
theorem found_norms (c : Dev nD) (t : Fin cfg0.N) (d) : (dat V c).before 2 t d = shown V c 2 t :=
  (dat V c).before_in_eq_fetched 2 rfl (fun _ => rfl) (fun _ _ _ => rfl) (fun t => by rw [after_norms]; rfl) t d

/-! ## The body at every point -/

theorem row_at (t : Fin cfg0.N) : defs₀ (F := F) .tc cfg0.body (cfg0.bodyArgs t (cfg0.slots t)) = bodyAt0 t := rfl

theorem point (c : Dev nD) (t : Fin cfg0.N) :
    (iprop((dat V c).Φ t.castSucc ∗ (dat V c).owesAt none t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d))) : sProp 𝕄)
      ⊢ wp frame (wpE (defs₀ (F := F)) 𝒱₀ c none) Set.univ (bodyAt0 t) fun _ =>
        iprop((dat V c).Φ t.succ ∗ (dat V c).owesAt none t.succ
          ∗ owns (c : Thread nD τ) (st0_0 t) fullShare ((dat V c).after 0 t)
          ∗ owns (c : Thread nD τ) (st0_1 t) fullShare ((dat V c).after 1 t)
          ∗ owns (c : Thread nD τ) (st0_2 t) fullShare ((dat V c).after 2 t)
          ∗ owns (c : Thread nD τ) (st0_3 t) fullShare ((dat V c).after 3 t)) := by
  simp only [found_rows, found_table, found_norms, after_rows, after_table, after_norms, after_codes]
  rw [show (dat V c).Φ t.succ = (dat V c).Φ t.castSucc from rfl, show (dat V c).owesAt none t.succ = (dat V c).owesAt none t.castSucc from rfl]
  iintro ⟨HΦ, HO, ⟨%dx, Hx⟩, ⟨%de, He⟩, ⟨%dn, Hn⟩, ⟨%dc, Hc⟩⟩
  iapply (wp_wand_r frame _ Set.univ)
  isplitl [Hx He Hn Hc]
  · iapply (body_codes (F := F) c (grid0.coords t) _ _ _ _ _ _ _ _ (shown V c 0 t) (shown V c 1 t) (shown V c 2 t))
    isplitl [Hx]; · iexact Hx
    isplitl [He]; · iexact He
    isplitl [Hn]; · iexact Hn
    iexists _; iexact Hc
  · iintro %u ⟨Hx, He, Hn, Hc⟩
    isplitl [HΦ]; · iexact HΦ
    isplitl [HO]; · iexact HO
    isplitl [Hx]; · iexact Hx
    isplitl [He]; · iexact He
    isplitl [Hn]; · iexact Hn
    iexact Hc

theorem every_point (c : Dev nD) : Pipeline.BodyObligation (dat V c) (defs₀ (F := F)) 𝒱₀ none Set.univ := fun t => by
  rw [bigSep_W0, bigSep_W0, row_at]
  exact triple_restated (point V c t) rfl .rfl fun _ => .rfl

end Cert.Proof.Whole
-- ==== Proof.Whole.Region.lean ====
/-
  The nearest-row call of the whole kernel as one step of @main: entered from the arrays of @main and
  what the TensorCore owes the gather, left with the codes written and everything else as it was.
-/
module

public import proofs.«01_k».proof.Proof.Whole.Body

@[expose] public section

noncomputable section

namespace Cert.Proof.Whole

open Cert.KernelIdeal Cert.KernelIdeal.Gen

open Idealize.ShloMosaic Idealize.ShloMosaic.TcCoe
open Idealize.ShloMosaic.SparseCore (T)
open Idealize.ShloMosaic.SparseCore.Cfg (HIx)
open Idealize.ShloMosaic.Pipeline (Dat arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays of @main, all held together -/

/-- The arrays of @main. -/
def arrs : Finset (DevRef τ sig) :=
  (Finset.univ.filter fun b : Ref sig .tc => ¬ b.isScoped).map ⟨Proc.devRef (τ := τ) .tc, Proc.devRef_injective _⟩

theorem mem_arrs (b : Ref sig .tc) (h : b.isScoped = false) : Proc.devRef (τ := τ) .tc b ∈ arrs :=
  Finset.mem_map.mpr ⟨b, Finset.mem_filter.mpr ⟨Finset.mem_univ _, by simp [h]⟩, rfl⟩

/-- The four arrays of the call are among them. -/
theorem windows_sub : Pipeline.arrRefs (τ := τ) spec0 ⊆ arrs := by
  intro b hb
  obtain ⟨r, hr, rfl⟩ := Finset.mem_map.mp hb
  obtain ⟨w, -, rfl⟩ := Finset.mem_image.mp hr
  exact mem_arrs _ ((by decide : ∀ w : Fin 4, (arrRef spec0 w).isScoped = false) w)

/-! ## The call as a step -/

variable (V : Dev nD → Valuation τ sig (Elt F))

abbrev adm : (p : Fin 1) → (pcfgs (F := F) p).Adm := fun q => (cfgs q).toPCfg_adm
abbrev dats : (p : Fin 1) → (c : Dev nD) → Dat τ (Elt F) (HIx 1) ℕ UU ℕ (Pipeline.pin (pcfgs (F := F)) adm p) c := fun _ c => dat V c

/-- What the TensorCore owes before the gather, every wait it has recorded at level zero. -/
def owing (c : Dev nD) : sProp 𝕄 :=
  iprop(∃ W, ⌜(K (F := F)).WBelow (T c) W 0⌝ ∗ owes (T c) ((K (F := F)).Otc c 0) W)

theorem owing_in (c : Dev nD) : (owing (F := F) c) ⊢ (dat V c).owesAt none 0 := by
  unfold owing
  iintro ⟨%W, %hW, HO⟩
  iexists W
  isplitr
  · ipureintro; exact fun p hp => Or.inl (hW p hp)
  iexact HO

theorem owing_out (c : Dev nD) : (dat V c).owesAt none (Fin.last cfg0.N) ⊢ (owing (F := F) c) := by
  unfold owing
  iintro ⟨%W, %hW, HO⟩
  iexists W
  isplitr
  · ipureintro
    intro p hp
    rcases hW hp with h | ⟨w, s, rfl⟩
    · exact h
    · exact le_rfl
  iexact HO

/-- The arrays of @main after the call. -/
abbrev after (c : Dev nD) : Valuation τ sig (Elt F) := Pipeline.afterRegion (dat V c) (V c)

theorem arrays_at (c : Dev nD) (G : Valuation τ sig (Elt F)) (n : Nat) (h : ∀ w, (dat V c).arrAt w n = G (Proc.devRef .tc (arrRef spec0 w))) :
    ((dat V c).arrays ((dat V c).arrAt · n) : sProp 𝕄) = StableHlo.held (c.tc : Thread nD τ) (Pipeline.arrRefs spec0) G :=
  Pipeline.arrays_held (pcfgs (F := F)) adm (dats V) 0 launch0.toP c ((dat V c).share_full fun _ => rfl) ((dat V c).arrAt · n) G h

theorem enter (c : Dev nD) :
    (StableHlo.held (c.tc : Thread nD τ) arrs (V c) : sProp 𝕄)
      ⊢ iprop((dat V c).arrays ((dat V c).arrAt · 0) ∗ StableHlo.held (c.tc : Thread nD τ) (arrs \ Pipeline.arrRefs spec0) (V c)) := by
  rw [arrays_at V c (V c) 0 (fun w => dat_A V c w), StableHlo.held_sub_split (c.tc : Thread nD τ) windows_sub (V c)]

theorem leave (c : Dev nD) :
    (iprop((dat V c).arrays ((dat V c).arrAt · cfg0.N) ∗ StableHlo.held (c.tc : Thread nD τ) (arrs \ Pipeline.arrRefs spec0) (V c)) : sProp 𝕄)
      ⊢ StableHlo.held (c.tc : Thread nD τ) arrs (after V c) := by
  rw [arrays_at V c (after V c) cfg0.N (fun w => (Pipeline.afterRegion_arr (dat V c) (V c) winFacts0.arr_inj w).symm),
    StableHlo.held_sub_split (c.tc : Thread nD τ) windows_sub (after V c),
    StableHlo.held_congr (c.tc : Thread nD τ) (S := arrs \ Pipeline.arrRefs spec0) (V := after V c) (V' := V c) (Pipeline.afterRegion_off (dat V c) (V c) arrs)]

def step : Pipeline.RegionSeg (pcfgs (F := F)) adm (dats V) none (defs₀ (F := F)) 𝒱₀ (K (F := F)).L ((K (F := F)).lev) 0 where
  win := winFacts0.to₀
  block_pos := block_pos0
  stage_whole := stage_whole0
  K := PEmpty
  osem k := k.elim
  ho := Pipeline.OwnSemFacts.none _
  hbody c := (every_point V c).loose
  hwaits c := Pipeline.cellsWaits_of_cut (Pipeline.pin (pcfgs (F := F)) adm) (dats V) none 0 c 0 ((K (F := F)).Otc c 0) (fun _ => rfl)
    (fun _ _ => Finset.mem_univ _) (fun _ _ => le_rfl)
    (fun _ _ h => ⟨Finset.mem_univ _, lt_of_lt_of_le (Nat.succ_pos _) ((K (F := F)).lev_of_Otc_pos h)⟩)
  pre c := iprop(StableHlo.held (c.tc : Thread nD τ) arrs (V c) ∗ owing c)
  post c := iprop(StableHlo.held (c.tc : Thread nD τ) arrs (after V c) ∗ owing c)
  X _ := iprop(emp)
  Y _ := iprop(emp)
  Z c := StableHlo.held (c.tc : Thread nD τ) (arrs \ Pipeline.arrRefs spec0) (V c)
  hentry c := by
    iintro ⟨⟨Ha, HO⟩, -, -⟩
    ihave H := (enter V c) $$ Ha
    icases H with ⟨Ha, Hz⟩
    imodintro
    isplitl [Ha]; · iexact Ha
    isplitr; · rw [Pipeline.prefHeld_of_none _ rfl]; iempintro
    isplitl [HO]; · iapply (owing_in V c); iexact HO
    isplitr; · iempintro
    iexact Hz
  hin c := show _ ⊢ (Pipeline.scopedRest spec0 c : sProp 𝕄) from by
    iintro ⟨-, -, H⟩
    iexact H
  hout c := show (Pipeline.scopedRest spec0 c : sProp 𝕄) ⊢ _ from by
    rw [Pipeline.ownSems0_none]
    iintro H
    isplitr; · iempintro
    isplitr; · iempintro
    iexact H
  hexit c := by
    iintro ⟨Ha, HO, -, Hz⟩
    imodintro
    isplitl [Ha Hz]
    · iapply (leave V c)
      isplitl [Ha]; · iexact Ha
      iexact Hz
    iapply (owing_out V c); iexact HO

/-- The call, in the middle of @main: before it, the arrays at `V` and the debt to the gather; after
    it, the arrays with the codes written. -/
theorem call_codes (c : Dev nD) (Q : PUnit → sProp 𝕄) :
    iprop((iprop(boundary (T c) ∗ StableHlo.held (T c) arrs (after V c) ∗ owing c) -∗ Q ⟨⟩)
        ∗ boundary (T c) ∗ StableHlo.held (T c) arrs (V c) ∗ owing c ∗ levAts (K (F := F)).L (K (F := F)).lev
        ∗ Pipeline.cellsGhost cfgs (EP (F := F)) 0 c ∗ Pipeline.toksInit cfgs (EP (F := F)) 0 c)
      ⊢ wp frame (wpE ((K (F := F)).defs (D (F := F))) 𝒱 (T c) none) Set.univ
          (Prog.lift (.customCall (SparseCore.inner (Pipeline.entry 0)) ())) Q := by
  refine BI.Entails.trans ?_ ((K (F := F)).wp_liftProg (D (F := F)) 𝒱 (T c) Set.univ none (Prog.lift (.customCall (Pipeline.entry (0 : Fin 1)) ())) Q)
  refine BI.Entails.trans ?_ (Pipeline.RegionSeg.wp (pcfgs (F := F)) adm (dats V) none cellOf_inj EP (defs₀ (F := F)) 𝒱₀ (K (F := F)).L ((K (F := F)).lev) (step V) c none
    (fun u h => nomatch h) Prog.ret Q)
  show _ ⊢ (iprop((iprop(boundary (T c) ∗ StableHlo.held (T c) arrs (after V c) ∗ owing c)
        -∗ wp frame (wpE (D (F := F)) 𝒱 (T c) none) Set.univ (Prog.ret PUnit.unit) Q)
      ∗ boundary (T c) ∗ iprop(StableHlo.held (T c) arrs (V c) ∗ owing c) ∗ levAts (K (F := F)).L (K (F := F)).lev
      ∗ Pipeline.cellsGhost cfgs (EP (F := F)) 0 c ∗ Pipeline.toksInit cfgs (EP (F := F)) 0 c) : sProp 𝕄)
  rw [wp_ret]
  iintro ⟨Hk, Hb, Ha, HO, Hl, Hg, Ht⟩
  isplitl [Hk]
  · iintro ⟨Hb, Ha, HO⟩
    imodintro
    iapply Hk
    isplitl [Hb]; · iexact Hb
    isplitl [Ha]; · iexact Ha
    iexact HO
  isplitl [Hb]; · iexact Hb
  isplitl [Ha HO]
  · isplitl [Ha]; · iexact Ha
    iexact HO
  isplitl [Hl]; · iexact Hl
  isplitl [Hg]; · iexact Hg
  iexact Ht

end Cert.Proof.Whole
-- ==== Proof.Whole.Launch.lean ====
/-
  The whole kernel's run: what one tile does of the gather, for every tile; what the launch deals;
  and @main on the TensorCore — the rows laid flat and the squared norms, the nearest-row call, the codes
  and the table reshaped, the gather, the two results reshaped — followed through the contents of
  all its arrays. The end of the run is each array at the contents `VEnd` names, for any float values.
-/
module

public import proofs.«01_k».proof.Proof.Whole.Tile
public import proofs.«01_k».proof.Proof.Whole.Region

@[expose] public section

noncomputable section

namespace Cert.Proof.Whole

open Cert.KernelIdeal Cert.KernelIdeal.Gen

open Idealize.ShloMosaic Idealize.ShloMosaic.TcCoe
open Idealize.ShloMosaic.SparseCore (T V S)
open Idealize.ShloMosaic.SparseCore.Cfg (HIx)
open Idealize.ShloMosaic.Pipeline (Dat arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type} [FloatOps F]

local notation "𝕄" => MT nD τ sig (HIx 1) (Elt F) ℕ UU ℕ

variable (tb : (d : Dev nD) → Buf (Elt F) (tLoc d)) (ix : (d : Dev nD) → Buf (Elt F) (iLoc d)) (o : (d : Dev nD) → Buf (Elt F) (oLoc d))

/-! ## One tile's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_k (coordsV c s)
          (Memref.whole main_v6_scv) (Memref.isWhole_whole _) (Memref.whole main_v5_scv) (Memref.isWhole_whole _) (Memref.whole main_v7_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scratch6 cc1_scratch7 cc1_scoped0 cc1_scoped1 cc1_scoped2 cc1_scoped3) ⟨⟩ c s := rfl

/-- Waits a tile adds are its own, or its call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (h : InRows ix) : (K (F := F)).TileObl (D (F := F)) 𝒱 (P tb ix o) v₀ 0 := by
  intro d c i O W hO _ _
  simp only [show (P tb ix o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ()))  _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) tb ix o facts h O W hO).trans (wp_mono frame _ _ fun _ => obl_post)

/-! ## The launch's ghost state -/

theorem bigSep_emp' {I : Type} (s : Finset I) : (bigSep s fun _ => iprop(emp)) = (iprop(emp) : sProp 𝕄) := bigSep_emp_const s

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What each device's TensorCore has for the staging cells of its call. -/
abbrev stage (d : Dev nD) : sProp 𝕄 := iprop(Pipeline.cellsGhost cfgs (EP (F := F)) 0 d ∗ Pipeline.toksInit cfgs (EP (F := F)) 0 d)

theorem staged : (BI.own ((EP (F := F)) (initOf (Pipeline.cells (nD := nD) (τ := τ) cfgs cellOf_inj) (Pipeline.launchToks (nD := nD) (τ := τ) cfgs cellOf_inj))) : sProp 𝕄)
    ⊢ |==> bigSep Finset.univ fun d : Dev nD => stage (F := F) d := by
  refine (Pipeline.fund_ghost cfgs (EP (F := F)) cellOf_inj).trans (BI.bupd_mono ?_)
  rw [← bigSep_sep']
  refine bigSep_mono fun d _ => ?_
  rw [bigSep_univ_of_subsingleton (0 : Fin 1), bigSep_univ_of_subsingleton (0 : Fin 1)]
  exact (Entails.of_eq rfl : (stage (F := F) d) ⊢ stage (F := F) d)

theorem hu₀ : (ownU (u₀ (F := F)) : sProp 𝕄)
    ⊢ |={Set.univ}=> iprop(BI.own (EH (initOf (K (F := F)).hsCells (K (F := F)).hsToks)) ∗ (bigSep Finset.univ fun d : Dev nD => stage (F := F) d)
        ∗ bigSep Finset.univ fun thr : Thread nD τ => bigSep Finset.univ fun q : Fin 1 => (P tb ix o).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)) : UP × Counters)) $$ Hu
  icases H with ⟨HH, HR⟩
  ihave H := (own_pair_emb (embR : Emb (UP × Counters) (MT nD τ sig (HIx 1) (Elt F) ℕ UU ℕ))
    (initOf (Pipeline.cells (nD := nD) (τ := τ) cfgs cellOf_inj) (Pipeline.launchToks (nD := nD) (τ := τ) cfgs cellOf_inj)) (1 : Counters)) $$ HR
  icases H with ⟨HP, -⟩
  imod (staged (F := F)) $$ HP with HG
  imodintro
  isplitl [HH]; · iexact HH
  isplitl [HG]; · iexact HG
  rw [show (bigSep Finset.univ fun thr : Thread nD τ => bigSep Finset.univ fun q : Fin 1 => (P (F := F) tb ix o).x q thr) = bigSep Finset.univ fun _ => iprop(emp) from
    bigSep_congr fun _ _ => bigSep_univ_of_subsingleton (0 : Fin 1), bigSep_emp']
  iempintro

/-! ## The arrays, held together and the gather's three apart -/

theorem unscopedBufs_held (m : (ℓ : Loc nD τ sig) → Buf (Elt F) ℓ) (d : Dev nD) :
    (unscopedBufs d (fun b => m ((d.tc : Thread nD τ).loc b)) : sProp 𝕄) = held (d.tc : Thread nD τ) arrs (launchContents m d) := by
  unfold unscopedBufs held arrs; rw [bigSep_map]; rfl

/-- The three arrays of the gather. -/
def trio : Finset (DevRef τ sig) := {Proc.devRef .tc main_v6, Proc.devRef .tc main_v5, Proc.devRef .tc main_v7}

theorem trio_sub : trio ⊆ arrs := by
  intro b hb
  simp only [trio, Finset.mem_insert, Finset.mem_singleton] at hb
  rcases hb with rfl | rfl | rfl <;> exact mem_arrs _ rfl

theorem held_trio (d : Dev nD) (V : Valuation τ sig (Elt F)) :
    (held (d.tc : Thread nD τ) trio V : sProp 𝕄)
      = iprop((tLoc d ↦{fullShare} V (Proc.devRef .tc main_v6)) ∗ (iLoc d ↦{fullShare} V (Proc.devRef .tc main_v5)) ∗ oLoc d ↦{fullShare} V (Proc.devRef .tc main_v7)) := by
  unfold held trio
  rw [SparseCore.bigSep_insert' (by decide), SparseCore.bigSep_insert' (by decide), bigSep_singleton]

/-! ## @main -/

/-- One of @main's array operations, with all the arrays held. -/
theorem host_step (d : Dev nD) (op : HloOp τ sig (Elt F)) (hb : op.bufs ⊆ arrs) (hf : op.fresh = ∅) (W : Valuation τ sig (Elt F)) (Q : PUnit → sProp 𝕄) :
    iprop(boundary (d.tc : Thread nD τ) ∗ (held (d.tc : Thread nD τ) arrs W : sProp 𝕄))
      ⊢ iprop(((boundary (d.tc : Thread nD τ) ∗ (held (d.tc : Thread nD τ) arrs (op.result W) : sProp 𝕄)) -∗ Q ⟨⟩)
        -∗ wp frame (wpE ((K (F := F)).defs (D (F := F))) 𝒱 (d.tc : Thread nD τ) none) Set.univ (hlo rfl op fun _ => .ret ⟨⟩) Q) := by
  iintro ⟨Hb, HA⟩ Hk
  iapply (wp_hlo_within 𝒱 (d.tc : Thread nD τ) none Set.univ (op := op) (S := arrs) hb hf) $$ [Hb HA]
  · isplitl [Hb]; · iexact Hb
    iexact HA
  iintro ⟨Hb, HA⟩
  rw [wp_ret]; imodintro
  iapply Hk
  isplitl [Hb]; · iexact Hb
  iexact HA

section Main

variable (m : (ℓ : Loc nD τ sig) → Buf (Elt F) ℓ) (ρ : Dev nD → PrngReg)

/-- The rows laid flat. -/
abbrev opRows : HloOp τ sig (Elt F) := StableHlo.reshape main_arg0 main_v0 (rfl : (.f32 : EltTy) = .f32) shapeCasts_S16x32x32x256_S16384x256
/-- The table squared, -/
abbrev opSq : HloOp τ sig (Elt F) :=
  StableHlo.binary main_arg1 main_arg1 main_v1 (mulf : (⟨S1296x256, .f32⟩ : BufTy).Contents (Elt F) → (⟨S1296x256, .f32⟩ : BufTy).Contents (Elt F) → (⟨S1296x256, .f32⟩ : BufTy).Contents (Elt F))
abbrev opZero : HloOp τ sig (Elt F) := StableHlo.nullary main_cst (constant S_ .f32 0x00000000#32)
/-- summed along each row, -/
abbrev opSum : HloOp τ sig (Elt F) :=
  StableHlo.binary main_v1 main_cst main_v2 ((fun x v => Host.reduceAdd x v reducesTo_S1296x256_S1296_d1 h_S_) : (⟨S1296x256, .f32⟩ : BufTy).Contents (Elt F) → (⟨S_, .f32⟩ : BufTy).Contents (Elt F) → (⟨S1296, .f32⟩ : BufTy).Contents (Elt F))
/-- as one row. -/
abbrev opNorms : HloOp τ sig (Elt F) :=
  StableHlo.unary main_v2 main_v3 (broadcastInDim S1x1296 ![1] bcast_S1296_S1x1296_1 : (⟨S1296, .f32⟩ : BufTy).Contents (Elt F) → (⟨S1x1296, .f32⟩ : BufTy).Contents (Elt F))
/-- The codes laid flat, -/
abbrev opCodes : HloOp τ sig (Elt F) := StableHlo.reshape main_v4 main_v5 (rfl : (.i32 : EltTy) = .i32) shapeCasts_S32x1x512_S16384
/-- the table with each row in two halves. -/
abbrev opTable : HloOp τ sig (Elt F) := StableHlo.reshape main_arg1 main_v6 (rfl : (.f32 : EltTy) = .f32) shapeCasts_S1296x256_S1296x2x128
/-- The two results in their shapes. -/
abbrev opOut1 : HloOp τ sig (Elt F) := StableHlo.reshape main_v5 main_v8 (rfl : (.i32 : EltTy) = .i32) shapeCasts_S16384_S16x32x32
abbrev opOut2 : HloOp τ sig (Elt F) := StableHlo.reshape main_v7 main_v9 (rfl : (.f32 : EltTy) = .f32) shapeCasts_S16384x2x128_S16x32x32x256

/-- The arrays when the nearest-row call starts. -/
def VNear (d : Dev nD) : Valuation τ sig (Elt F) := opNorms.result (opSum.result (opZero.result (opSq.result (opRows.result (launchContents m d)))))
/-- The arrays when the gather starts. -/
def VIn (d : Dev nD) : Valuation τ sig (Elt F) := opTable.result (opCodes.result (after (VNear m) d))
def tbIn (d : Dev nD) : Buf (Elt F) (tLoc d) := VIn m d (Proc.devRef .tc main_v6)
def ixIn (d : Dev nD) : Buf (Elt F) (iLoc d) := VIn m d (Proc.devRef .tc main_v5)
def oIn (d : Dev nD) : Buf (Elt F) (oLoc d) := VIn m d (Proc.devRef .tc main_v7)
/-- The arrays when the gather has run. -/
def VOut (d : Dev nD) : Valuation τ sig (Elt F) := Function.update (VIn m d) (Proc.devRef .tc main_v7) (gathBuf (tbIn m) (ixIn m) d)
/-- The arrays at the end. -/
def VEnd (d : Dev nD) : Valuation τ sig (Elt F) := opOut2.result (opOut1.result (VOut m d))

theorem held_in (d : Dev nD) : (held (d.tc : Thread nD τ) arrs (VIn m d) : sProp 𝕄)
    = iprop(((tLoc d ↦{fullShare} tbIn m d) ∗ (iLoc d ↦{fullShare} ixIn m d) ∗ oLoc d ↦{fullShare} oIn m d)
        ∗ held (d.tc : Thread nD τ) (arrs \ trio) (VIn m d)) := by
  rw [held_sub_split _ trio_sub, held_trio]; rfl

theorem held_out (d : Dev nD) : (held (d.tc : Thread nD τ) arrs (VOut m d) : sProp 𝕄)
    = iprop(((tLoc d ↦{fullShare} tbIn m d) ∗ (iLoc d ↦{fullShare} ixIn m d) ∗ oLoc d ↦{fullShare} gathBuf (tbIn m) (ixIn m) d)
        ∗ held (d.tc : Thread nD τ) (arrs \ trio) (VIn m d)) := by
  rw [held_sub_split _ trio_sub, held_trio]
  have h0 : VOut m d (Proc.devRef .tc main_v6) = tbIn m d := Function.update_of_ne (by decide) _ _
  have h1 : VOut m d (Proc.devRef .tc main_v5) = ixIn m d := Function.update_of_ne (by decide) _ _
  have h2 : VOut m d (Proc.devRef .tc main_v7) = gathBuf (tbIn m) (ixIn m) d := Function.update_self _ _ _
  have h3 : (held (d.tc : Thread nD τ) (arrs \ trio) (VOut m d) : sProp 𝕄) = held (d.tc : Thread nD τ) (arrs \ trio) (VIn m d) :=
    held_congr _ fun b hb => Function.update_of_ne (fun e => (Finset.mem_sdiff.mp hb).2 (by rw [e]; decide)) _ _
  rw [h0, h1, h2, h3]

/-- Every array at its contents at the end. -/
abbrev FIN (d : Dev nD) : sProp 𝕄 := held (d.tc : Thread nD τ) arrs (VEnd m d)

theorem st0_eq (d : Dev nD) : (bigSep Finset.univ fun c : Fin ((K (F := F)).nCore 0) => (P tb ix o).st 0 d c)
    = (iprop((tLoc d ↦{fullShare} tb d) ∗ (iLoc d ↦{fullShare} ix d) ∗ (oLoc d ↦{fullShare} o d)) : sProp 𝕄) :=
  (pts_tiles tb ix o d).symm
theorem dn0_eq (d : Dev nD) : (bigSep Finset.univ fun c : Fin ((K (F := F)).nCore 0) => (P tb ix o).dn 0 d c)
    = (iprop((tLoc d ↦{fullShare} tb d) ∗ (iLoc d ↦{fullShare} ix d) ∗ (oLoc d ↦{fullShare} gathBuf tb ix d)) : sProp 𝕄) :=
  (pts_tiles tb ix (gathBuf tb ix) d).symm

set_option maxHeartbeats 1000000 in
theorem hmain (κ : GSem nD τ sig → ℕ) (d : Dev nD) :
    iprop((K (F := F)).ctx EH (P (tbIn m) (ixIn m) (oIn m)) κ ∗ (K (F := F)).tcSt EH d 0 ∗ (K (F := F)).tcRes m ρ d ∗ stage d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_held]
  simp only [main, wp_bind, wp_pure]
  iintro ⟨#Hctx, Hst, ⟨Hb, HA, Hts, -⟩, Hg, Ht⟩
  iapply (host_step d opRows (by
    intro b hb; rw [reshape_bufs] at hb; simp only [Finset.mem_insert, Finset.mem_singleton] at hb
    rcases hb with rfl | rfl <;> exact mem_arrs _ rfl) rfl (launchContents m d)) $$ [Hb HA]
  · isplitl [Hb]; · iexact Hb
    iexact HA
  iintro ⟨Hb, HA⟩
  iapply (host_step d opSq (by
    intro b hb; rw [binary_bufs] at hb; simp only [Finset.mem_insert, Finset.mem_singleton] at hb
    rcases hb with rfl | rfl | rfl <;> exact mem_arrs _ rfl) rfl _) $$ [Hb HA]
  · isplitl [Hb]; · iexact Hb
    iexact HA
  iintro ⟨Hb, HA⟩
  iapply (host_step d opZero (by
    intro b hb; rw [nullary_bufs] at hb; simp only [Finset.mem_insert, Finset.mem_singleton] at hb
    rcases hb with rfl <;> exact mem_arrs _ rfl) rfl _) $$ [Hb HA]
  · isplitl [Hb]; · iexact Hb
    iexact HA
  iintro ⟨Hb, HA⟩
  iapply (host_step d opSum (by
    intro b hb; rw [binary_bufs] at hb; simp only [Finset.mem_insert, Finset.mem_singleton] at hb
    rcases hb with rfl | rfl | rfl <;> exact mem_arrs _ rfl) rfl _) $$ [Hb HA]
  · isplitl [Hb]; · iexact Hb
    iexact HA
  iintro ⟨Hb, HA⟩
  iapply (host_step d opNorms (by
    intro b hb; rw [unary_bufs] at hb; simp only [Finset.mem_insert, Finset.mem_singleton] at hb
    rcases hb with rfl | rfl <;> exact mem_arrs _ rfl) rfl _) $$ [Hb HA]
  · isplitl [Hb]; · iexact Hb
    iexact HA
  iintro ⟨Hb, HA⟩
  -- the nearest-row call, the debt to the gather lent to it
  ihave Hst := (show ((K (F := F)).tcSt EH d 0 : sProp 𝕄) ⊢ iprop(owing d ∗ (owing d -∗ (K (F := F)).tcSt EH d 0)) from by
    unfold SparseCore.Cfg.tcSt owing
    iintro ⟨HO, Hr⟩
    isplitl [HO]; · iexact HO
    iintro HO
    isplitl [HO]; · iexact HO
    iexact Hr) $$ Hst
  icases Hst with ⟨HO, Hst⟩
  iapply (call_codes (VNear m) d _)
  isplitr [Hb HA HO Hg Ht]
  rotate_left
  · isplitl [Hb]; · iexact Hb
    isplitl [HA]; · iexact HA
    isplitl [HO]; · iexact HO
    isplitr; · iapply ((K (F := F)).ctx_levAts (EH := EH) (P := P (tbIn m) (ixIn m) (oIn m)) κ); iexact Hctx
    isplitl [Hg]; · iexact Hg
    iexact Ht
  iintro ⟨Hb, HA, HO⟩
  ihave Hst := Hst $$ HO
  iapply (host_step d opCodes (by
    intro b hb; rw [reshape_bufs] at hb; simp only [Finset.mem_insert, Finset.mem_singleton] at hb
    rcases hb with rfl | rfl <;> exact mem_arrs _ rfl) rfl _) $$ [Hb HA]
  · isplitl [Hb]; · iexact Hb
    iexact HA
  iintro ⟨Hb, HA⟩
  iapply (host_step d opTable (by
    intro b hb; rw [reshape_bufs] at hb; simp only [Finset.mem_insert, Finset.mem_singleton] at hb
    rcases hb with rfl | rfl <;> exact mem_arrs _ rfl) rfl _) $$ [Hb HA]
  · isplitl [Hb]; · iexact Hb
    iexact HA
  iintro ⟨Hb, HA⟩
  ihave HA := (show (held (d.tc : Thread nD τ) arrs (opTable.result (opCodes.result (after (VNear m) d))) : sProp 𝕄) ⊢ _ from Entails.of_eq (held_in m d)) $$ HA
  icases HA with ⟨H3, HR⟩
  iapply ((K (F := F)).wp_run (D (F := F)) 𝒱 (EH := EH) (P := P (tbIn m) (ixIn m) (oIn m)) κ d 0) $$ [Hst H3 Hb Hts HR]
  isplitr; · iexact Hctx
  isplitl [Hst]; · iexact Hst
  isplitl [H3]
  · rw [st0_eq]; iexact H3
  iintro ⟨Hst, Hdn⟩
  ihave H3 := (Entails.of_eq (dn0_eq (tbIn m) (ixIn m) (oIn m) d)) $$ Hdn
  ihave HA := (Entails.of_eq (held_out m d).symm) $$ [H3 HR]
  · isplitl [H3]; · iexact H3
    iexact HR
  iapply (host_step d opOut1 (by
    intro b hb; rw [reshape_bufs] at hb; simp only [Finset.mem_insert, Finset.mem_singleton] at hb
    rcases hb with rfl | rfl <;> exact mem_arrs _ rfl) rfl _) $$ [Hb HA]
  · isplitl [Hb]; · iexact Hb
    iexact HA
  iintro ⟨Hb, HA⟩
  iapply (host_step d opOut2 (by
    intro b hb; rw [reshape_bufs] at hb; simp only [Finset.mem_insert, Finset.mem_singleton] at hb
    rcases hb with rfl | rfl <;> exact mem_arrs _ rfl) rfl _) $$ [Hb HA]
  · isplitl [Hb]; · iexact Hb
    iexact HA
  iintro ⟨Hb, HA⟩
  imodintro
  unfold FIN VEnd
  isplitl [Hst]; · iexact Hst
  isplitl [HA]; · iexact HA
  isplitl [Hb]; · iexact Hb
  iexact Hts

def fq (d : Dev nD) (s' : Phys nD τ sig (Elt F)) : Prop := ∀ b ∈ arrs, s'.mem.mem ((d, b) : Loc nD τ sig) = VEnd m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) arrs) $$ [HSI H]
  · isplitl [HSI]; · iexact HSI
    iexact H
  ipureintro
  exact h

def QC : PUnit × MemSt nD τ sig (Elt F) → Prop := fun r => (∀ d : Dev nD, ∀ b ∈ arrs, r.2.mem ((d, b) : Loc nD τ sig) = VEnd m d b) ∧ r.2.sem = fun _ => 0

/-- THE RUN: with every code naming a row, every execution ends with each array at `VEnd`. -/
theorem run_main [∀ e, Nonempty (Elt F e)] (h : InRows (ixIn m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tbIn m) (ixIn m) (oIn m)) (A := ∅) facts v₀
    (fun q hq => match q with | 0 => nomatch hq)
    (fun q _ => match q with | 0 => tileObl _ _ _ h)
    (fun q _ => match q with | 0 => SparseCore.Cfg.VecSplit.of_plain (vecSplit _ _ _ 0))
    m ρ main (fun d => stage (F := F) d) (FIN m) (u₀ (F := F)) (sep_elim_left.trans (hu₀ _ _ _)) (hmain m ρ) (fq m) (hfin m) (QC m) (fun _ h hz => ⟨h, hz⟩)

end Main

end Cert.Proof.Whole
-- ==== Proof.Whole.Final.lean ====
/-
  The codes that the nearest-row call of the whole kernel writes, from whatever its arrays hold when it
  starts: block `t` of 512 from the `t`-th 512 rows, so the array is `codes3` of the rows, the table and
  its squared norms.
-/
module

public import proofs.«01_k».proof.Proof.Values.Codes
public import proofs.«01_k».proof.Proof.Whole.Body

@[expose] public section

noncomputable section

namespace Cert.Proof.Whole

open Cert.KernelIdeal Cert.KernelIdeal.Gen
open Idealize.ShloMosaic Idealize.ShloMosaic.TcCoe Idealize.SL.Sem

variable (V : Dev nD → Valuation τ sig (Elt Ideal))

/-! ## The body's result -/

set_option maxRecDepth 65536 in
/-- The body is the one of the call taken by itself. -/
theorem pay_same (x : Vec Ideal S512x256 .f32) (e : Vec Ideal S1296x256 .f32) (n : Vec Ideal S1x1296 .f32) :
    k0_pay1 x e n = Cert.NearestIdeal.Gen.k0_pay1 (F := Ideal) x e n := rfl

/-! ## Where the windows lie -/

theorem rowsAt : ∀ t : Fin cfg0.N, win0_0.index t (0 : Fin 2) = t.val ∧ win0_0.index t (1 : Fin 2) = 0 := (by decide +kernel : ∀ t : Fin grid0.N, _)
theorem tableAt : ∀ t : Fin cfg0.N, win0_1.index t (0 : Fin 2) = 0 ∧ win0_1.index t (1 : Fin 2) = 0 := (by decide +kernel : ∀ t : Fin grid0.N, _)
theorem normsAt : ∀ t : Fin cfg0.N, win0_2.index t (0 : Fin 2) = 0 ∧ win0_2.index t (1 : Fin 2) = 0 := (by decide +kernel : ∀ t : Fin grid0.N, _)
theorem codesIn : ∀ t : Fin cfg0.N, win0_3.index t (0 : Fin 3) = t.val ∧ win0_3.index t (1 : Fin 3) = 0 ∧ win0_3.index t (2 : Fin 3) = 0 :=
  (by decide +kernel : ∀ t : Fin grid0.N, _)

theorem below32 (t : Fin cfg0.N) : t.val < 32 := t.isLt

/-- Row `r` of the `t`-th block of rows. -/
def rowOf (t : Fin cfg0.N) (r : Fin 512) : Fin 16384 := ⟨t.val * 512 + r.val, by have := below32 t; omega⟩

theorem rows_lie (t : Fin cfg0.N) (r : Fin 512) (k : Fin 256) : ((cfg0.win 0).blk t).view.emb (ix2 r k : S512x256.Idx) = (ix2 (rowOf t r) k : S16384x256.Idx) := by
  obtain ⟨e0, e1⟩ := rowsAt t
  funext a; apply Fin.ext
  match a with
  | ⟨0, _⟩ => show win0_0.index t (0 : Fin 2) * 512 + 1 * r.val = t.val * 512 + r.val; omega
  | ⟨1, _⟩ => show win0_0.index t (1 : Fin 2) * 256 + 1 * k.val = k.val; omega

theorem table_lies (t : Fin cfg0.N) (j : S1296x256.Idx) : ((cfg0.win 1).blk t).view.emb j = j := by
  obtain ⟨e0, e1⟩ := tableAt t
  funext a; apply Fin.ext
  match a with
  | ⟨0, _⟩ => show win0_1.index t (0 : Fin 2) * 1296 + 1 * (j 0).val = (j 0).val; omega
  | ⟨1, _⟩ => show win0_1.index t (1 : Fin 2) * 256 + 1 * (j 1).val = (j 1).val; omega

theorem norms_lie (t : Fin cfg0.N) (j : S1x1296.Idx) : ((cfg0.win 2).blk t).view.emb j = j := by
  obtain ⟨e0, e1⟩ := normsAt t
  funext a; apply Fin.ext
  match a with
  | ⟨0, _⟩ => show win0_2.index t (0 : Fin 2) * 1 + 1 * (j 0).val = (j 0).val; omega
  | ⟨1, _⟩ => show win0_2.index t (1 : Fin 2) * 1296 + 1 * (j 1).val = (j 1).val; omega

theorem codes_lie (t : Fin cfg0.N) (r : Fin 512) : ((cfg0.win 3).blk t).view.emb (ix3 0 0 r : S1x1x512.Idx) = (ix3 (⟨t.val, below32 t⟩ : Fin 32) 0 r : S32x1x512.Idx) := by
  obtain ⟨e0, e1, e2⟩ := codesIn t
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 512 + 1 * r.val = r.val; omega

/-! ## The blocks, and the array they make -/

/-- The codes of the arrays as the call finds them. -/
def codesOf (c : Dev nD) : IVec S32x1x512 32 :=
  codes3 (V c (Proc.devRef .tc main_v0)) (V c (Proc.devRef .tc main_arg1)) (V c (Proc.devRef .tc main_v3))

theorem codesAt_eq (c : Dev nD) (t : Fin cfg0.N) (r : Fin 512) :
    codesAt V c t (ix3 0 0 r : S1x1x512.Idx) = codesOf V c (ix3 (⟨t.val, below32 t⟩ : Fin 32) 0 r : S32x1x512.Idx) := by
  unfold codesAt
  rw [pay_same, pay_apply]
  have h0 : (fun k => shown V c 0 t (ix2 r k : S512x256.Idx)) = fun k => V c (Proc.devRef .tc main_v0) (ix2 (rowOf t r) k : S16384x256.Idx) :=
    funext fun k => congrArg (V c (Proc.devRef .tc main_v0)) (rows_lie t r k)
  have h1 : shown V c 1 t = V c (Proc.devRef .tc main_arg1) := funext fun j => congrArg (V c (Proc.devRef .tc main_arg1)) (table_lies t j)
  have h2 : shown V c 2 t = V c (Proc.devRef .tc main_v3) := funext fun j => congrArg (V c (Proc.devRef .tc main_v3)) (norms_lie t j)
  exact congrArg (fun p => BitVec.ofNat 32 (Fin.val p)) (congr (congr (congrArg rowCode h0) h1) h2)

theorem written (c : Dev nD) (t : Fin cfg0.N) : (dat V c).flushed 3 t = ((cfg0.win 3).blk t).view.read (Elt Ideal) (codesOf V c) := by
  show (cfg0.win 3).cut (grid0.coords t) ((dat V c).after 3 t) = _
  rw [after_codes]
  funext j
  obtain ⟨r, rfl⟩ : ∃ r : Fin 512, j = (ix3 0 0 r : S1x1x512.Idx) := ⟨j 2, by
    funext a
    match a with
    | 0 => exact Subsingleton.elim (α := Fin 1) _ _
    | 1 => exact Subsingleton.elim (α := Fin 1) _ _
    | 2 => rfl⟩
  exact (codesAt_eq V c t r).trans (congrArg (codesOf V c) (codes_lie t r).symm)

theorem all_written (i : S32x1x512.Idx) : ∃ t : Fin cfg0.N, (cfg0.win 3).flush t = true ∧ i ∈ ((cfg0.win 3).blk t).view.set := by
  have hi : i = (ix3 (i 0) 0 (i 2) : S32x1x512.Idx) := by
    funext a
    match a with
    | 0 => rfl
    | 1 => exact Subsingleton.elim (α := Fin 1) _ _
    | 2 => rfl
  let t : Fin cfg0.N := ⟨(i 0).val, (i 0).isLt⟩
  have h := ((cfg0.win 3).blk t).view.emb_mem_set (ix3 0 0 (i 2) : S1x1x512.Idx)
  exact ⟨t, flush0_3 _, (congrArg (· ∈ ((cfg0.win 3).blk t).view.set) (hi.trans (codes_lie t _).symm)).mpr h⟩

/-- The array of codes after the call. -/
theorem codes_final (c : Dev nD) : (dat V c).arrAt 3 cfg0.N = codesOf V c :=
  (dat V c).arrAt_eq_of_cover 3 (codesOf V c) (fun t _ => written V c t) all_written

end Cert.Proof.Whole
-- ==== Proof.Whole.Ends.lean ====
/-
  The contents of the whole kernel's arrays along its run, by the arguments it was started with: what the
  nearest-row call finds, the codes it writes, what the gather is given, and the two results.
-/
module

public import proofs.«01_k».proof.Proof.Whole.Launch
public import proofs.«01_k».proof.Proof.Whole.Final
public import proofs.«01_k».proof.Proof.Values.Flat
public import proofs.«01_k».proof.Proof.Values.Take
public import Idealize.ShloMosaic.Lib.Pointwise.Reshape

@[expose] public section

noncomputable section

namespace Cert.Proof.Whole

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ)

/-- The first argument of @main on device `d`, and the table. -/
abbrev inX (d : Dev nD) : FVec Ideal S16x32x32x256 .f32 := m ((d.tc : Thread nD τ).loc main_arg0)
abbrev inE (d : Dev nD) : FVec Ideal S1296x256 .f32 := m ((d.tc : Thread nD τ).loc main_arg1)

/-! ## What the nearest-row call finds -/

theorem VNear_arg0 (d : Dev nD) : VNear m d (Proc.devRef .tc main_arg0) = inX m d := by
  unfold VNear opNorms opSum opZero opSq opRows
  rw [unary_result_ne' _ _ _ _ (by decide), binary_result_ne' _ _ _ _ _ (by decide), nullary_result_ne' _ _ _ (by decide),
    binary_result_ne' _ _ _ _ _ (by decide), reshape_result_ne' _ _ _ _ _ (by decide)]

theorem VNear_arg1 (d : Dev nD) : VNear m d (Proc.devRef .tc main_arg1) = inE m d := by
  unfold VNear opNorms opSum opZero opSq opRows
  rw [unary_result_ne' _ _ _ _ (by decide), binary_result_ne' _ _ _ _ _ (by decide), nullary_result_ne' _ _ _ (by decide),
    binary_result_ne' _ _ _ _ _ (by decide), reshape_result_ne' _ _ _ _ _ (by decide)]

theorem VNear_rows (d : Dev nD) : VNear m d (Proc.devRef .tc main_v0) = rows (inX m d) := by
  unfold VNear opNorms opSum opZero opSq opRows
  rw [unary_result_ne' _ _ _ _ (by decide), binary_result_ne' _ _ _ _ _ (by decide), nullary_result_ne' _ _ _ (by decide),
    binary_result_ne' _ _ _ _ _ (by decide), reshape_result']
  rfl

theorem VNear_norms (d : Dev nD) : VNear m d (Proc.devRef .tc main_v3) = norms (inE m d) := by
  unfold VNear opNorms opSum opZero opSq opRows
  rw [unary_result', binary_result', nullary_result_ne' _ _ _ (by decide), nullary_result', binary_result', reshape_result_ne' _ _ _ _ _ (by decide)]
  rfl

/-! ## After it -/

theorem arrs_distinct : Function.Injective (Pipeline.arrRef cfg0.spec) := by decide

/-- The codes, by the arguments. -/
abbrev cod (d : Dev nD) : IVec S32x1x512 32 := codes3 (rows (inX m d)) (inE m d) (norms (inE m d))

theorem after_v4 (d : Dev nD) : after (VNear m) d (Proc.devRef .tc main_v4) = cod m d := by
  refine (Pipeline.afterRegion_arr (dat (VNear m) d) (VNear m d) arrs_distinct 3).trans ((codes_final (VNear m) d).trans ?_)
  unfold codesOf
  rw [VNear_rows, VNear_arg1, VNear_norms]

theorem after_same (d : Dev nD) (r : Ref sig .tc) (h : ∀ w, Pipeline.arrRef cfg0.spec w = r → (cfg0.win w).isOut = false) :
    after (VNear m) d (Proc.devRef .tc r) = VNear m d (Proc.devRef .tc r) :=
  Pipeline.afterRegion_keeps (dat (VNear m) d) (VNear m d) arrs_distinct (dat_A (VNear m) d) r h

theorem after_arg0 (d : Dev nD) : after (VNear m) d (Proc.devRef .tc main_arg0) = inX m d := (after_same m d main_arg0 (by decide)).trans (VNear_arg0 m d)
theorem after_arg1 (d : Dev nD) : after (VNear m) d (Proc.devRef .tc main_arg1) = inE m d := (after_same m d main_arg1 (by decide)).trans (VNear_arg1 m d)

/-! ## What the gather is given -/

theorem VIn_arg0 (d : Dev nD) : VIn m d (Proc.devRef .tc main_arg0) = inX m d := by
  unfold VIn opTable opCodes
  rw [reshape_result_ne' _ _ _ _ _ (by decide), reshape_result_ne' _ _ _ _ _ (by decide), after_arg0]

theorem VIn_arg1 (d : Dev nD) : VIn m d (Proc.devRef .tc main_arg1) = inE m d := by
  unfold VIn opTable opCodes
  rw [reshape_result_ne' _ _ _ _ _ (by decide), reshape_result_ne' _ _ _ _ _ (by decide), after_arg1]

theorem ixIn_eq (d : Dev nD) : ixIn m d = shapeCast S16384 (cod m d) shapeCasts_S32x1x512_S16384 := by
  unfold ixIn VIn opTable opCodes
  rw [reshape_result_ne' _ _ _ _ _ (by decide), reshape_result', after_v4]
  rfl

theorem tbIn_eq (d : Dev nD) : tbIn m d = shapeCast S1296x2x128 (inE m d) shapeCasts_S1296x256_S1296x2x128 := by
  unfold tbIn VIn opTable opCodes
  rw [reshape_result', reshape_result_ne' _ _ _ _ _ (by decide), after_arg1]
  rfl

/-- Every code that the call writes names a row, whatever the floats hold. -/
theorem in_rows : InRows (ixIn m) := fun d j => by
  rw [ixIn_eq]
  exact codes3_lt _ _ _ _

/-! ## The end -/

theorem VEnd_arg0 (d : Dev nD) : VEnd m d (Proc.devRef .tc main_arg0) = inX m d := by
  unfold VEnd opOut1 opOut2
  rw [reshape_result_ne' _ _ _ _ _ (by decide), reshape_result_ne' _ _ _ _ _ (by decide)]
  unfold VOut
  rw [Function.update_of_ne (by decide), VIn_arg0]

theorem VEnd_arg1 (d : Dev nD) : VEnd m d (Proc.devRef .tc main_arg1) = inE m d := by
  unfold VEnd opOut1 opOut2
  rw [reshape_result_ne' _ _ _ _ _ (by decide), reshape_result_ne' _ _ _ _ _ (by decide)]
  unfold VOut
  rw [Function.update_of_ne (by decide), VIn_arg1]

/-- The first result: the codes in their shape. -/
theorem VEnd_codes (d : Dev nD) : VEnd m d (Proc.devRef .tc main_v8) = shapeCast S16x32x32 (ixIn m d) shapeCasts_S16384_S16x32x32 := by
  unfold VEnd opOut1 opOut2
  rw [reshape_result_ne' _ _ _ _ _ (by decide), reshape_result']
  unfold VOut
  rw [Function.update_of_ne (by decide)]
  rfl

/-- The second result: the gathered rows in their shape. -/
theorem VEnd_rows (d : Dev nD) : VEnd m d (Proc.devRef .tc main_v9) = shapeCast S16x32x32x256 (gathBuf (tbIn m) (ixIn m) d) shapeCasts_S16384x2x128_S16x32x32x256 := by
  unfold VEnd opOut1 opOut2
  rw [reshape_result', reshape_result_ne' _ _ _ _ _ (by decide)]
  unfold VOut
  rw [Function.update_self]
  rfl

end Cert.Proof.Whole
-- ==== Proof.Whole.RefRun.lean ====
/-
  The whole reference's @main as a list of host operations, and its run read back.
-/
module

public import proofs.«01_k».proof.Proof.Values.Argmin
public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The least values of the rows, as the printed reduction of pairs gives them. -/
def pairVal (x : FVec F S16x32x32x1296 .f32) (y : IVec S16x32x32x1296 32) (u : FVec F S_ .f32) (v : IVec S_ 32) : FVec F S16x32x32 .f32 :=
  fun j => (Host.argReduce reducer_argmin_f32_i32 x y u v reducesTo_S16x32x32x1296_S16x32x32_d3 h_S_ j).1

/-- The positions of the least values, as the printed reduction of pairs gives them. -/
def pairPos (x : FVec F S16x32x32x1296 .f32) (y : IVec S16x32x32x1296 32) (u : FVec F S_ .f32) (v : IVec S_ 32) : IVec S16x32x32 32 :=
  seconds (Host.argReduce reducer_argmin_f32_i32 x y u v reducesTo_S16x32x32x1296_S16x32x32_d3 h_S_)

/-- The codes, wrapped where negative, as the printed take does. -/
def wrap3 (c : IVec S16x32x32 32) : IVec S16x32x32 32 :=
  select (cmpi .slt c (broadcastInDim S16x32x32 ![] bcast_S_S16x32x32 (constantI S_ 32 0#32)))
    (addi c (broadcastInDim S16x32x32 ![] bcast_S_S16x32x32 (constantI S_ 32 1296#32))) c

/-- The mask of the codes in range, as the printed take computes it. -/
def mask3 (c : IVec S16x32x32 32) : IVec S16x32x32 1 :=
  Host.reduce IntOp.andi
    (andi (cmpi .sge (broadcastInDim S16x32x32x1 ![0, 1, 2] bcast_S16x32x32_S16x32x32x1_0_1_2 c) (broadcastInDim S16x32x32x1 ![] bcast_S_S16x32x32x1 (constantI S_ 32 0#32)))
      (cmpi .sle (broadcastInDim S16x32x32x1 ![0, 1, 2] bcast_S16x32x32_S16x32x32x1_0_1_2 c)
        (broadcastInDim S16x32x32x1 ![0, 1, 2, 3] bcast_S1x1x1x1_S16x32x32x1_0_1_2_3 (broadcastInDim S1x1x1x1 ![3] bcast_S1_S1x1x1x1_3 (constantI S1 32 1295#32)))))
    (constantI S_ 1 1#1) reducesTo_S16x32x32x1_S16x32x32_d3 h_S_

/-- The printed take of rows of the table. -/
def taken (e : FVec Ideal S1296x256 .f32) (c : IVec S16x32x32 32) : FVec Ideal S16x32x32x256 .f32 :=
  select (broadcastInDim S16x32x32x256 ![0, 1, 2] bcast_S16x32x32_S16x32x32x256_0_1_2 (mask3 (wrap3 c)))
    (Host.gather gather_S1296x256_S16x32x32x1_S16x32x32x256_3_0_n_n_0_3_1256 e (broadcastInDim S16x32x32x1 ![0, 1, 2] bcast_S16x32x32_S16x32x32x1_0_1_2 (wrap3 c)))
    (broadcastInDim S16x32x32x256 ![] bcast_S_S16x32x32x256 (constant S_ .f32 0x7FC00000#32))

/-- The operations of the reference's @main, in order. -/
abbrev ops : List (HloOp τ sig (Elt F)) :=
  [ binary main_arg0 main_arg0 main_v0 (mulf : (⟨S16x32x32x256, .f32⟩ : BufTy).Contents (Elt F) → (⟨S16x32x32x256, .f32⟩ : BufTy).Contents (Elt F) → (⟨S16x32x32x256, .f32⟩ : BufTy).Contents (Elt F)),
    nullary main_cst (constant S_ .f32 0x00000000#32),
    binary main_v0 main_cst main_v1 ((fun x v => Host.reduceAdd x v reducesTo_S16x32x32x256_S16x32x32_d3 h_S_) : (⟨S16x32x32x256, .f32⟩ : BufTy).Contents (Elt F) → (⟨S_, .f32⟩ : BufTy).Contents (Elt F) → (⟨S16x32x32, .f32⟩ : BufTy).Contents (Elt F)),
    unary main_v1 main_v2 (broadcastInDim S16x32x32x1 ![0, 1, 2] bcast_S16x32x32_S16x32x32x1_0_1_2 : (⟨S16x32x32, .f32⟩ : BufTy).Contents (Elt F) → (⟨S16x32x32x1, .f32⟩ : BufTy).Contents (Elt F)),
    binary main_arg1 main_arg1 main_v3 (mulf : (⟨S1296x256, .f32⟩ : BufTy).Contents (Elt F) → (⟨S1296x256, .f32⟩ : BufTy).Contents (Elt F) → (⟨S1296x256, .f32⟩ : BufTy).Contents (Elt F)),
    nullary main_cst_0 (constant S_ .f32 0x00000000#32),
    binary main_v3 main_cst_0 main_v4 ((fun x v => Host.reduceAdd x v reducesTo_S1296x256_S1296_d1 h_S_) : (⟨S1296x256, .f32⟩ : BufTy).Contents (Elt F) → (⟨S_, .f32⟩ : BufTy).Contents (Elt F) → (⟨S1296, .f32⟩ : BufTy).Contents (Elt F)),
    binary main_arg0 main_arg1 main_v5 ((fun l r => Host.dotGeneral dot_S16x32x32x256_S1296x256_S16x32x32x1296_3_1_012_0_n_n none l r) : (⟨S16x32x32x256, .f32⟩ : BufTy).Contents (Elt F) → (⟨S1296x256, .f32⟩ : BufTy).Contents (Elt F) → (⟨S16x32x32x1296, .f32⟩ : BufTy).Contents (Elt F)),
    unary main_v4 main_v6 (broadcastInDim S1x1x1x1296 ![3] bcast_S1296_S1x1x1x1296_3 : (⟨S1296, .f32⟩ : BufTy).Contents (Elt F) → (⟨S1x1x1x1296, .f32⟩ : BufTy).Contents (Elt F)),
    unary main_v2 main_v7 (broadcastInDim S16x32x32x1296 ![0, 1, 2, 3] bcast_S16x32x32x1_S16x32x32x1296_0_1_2_3 : (⟨S16x32x32x1, .f32⟩ : BufTy).Contents (Elt F) → (⟨S16x32x32x1296, .f32⟩ : BufTy).Contents (Elt F)),
    unary main_v6 main_v8 (broadcastInDim S16x32x32x1296 ![0, 1, 2, 3] bcast_S1x1x1x1296_S16x32x32x1296_0_1_2_3 : (⟨S1x1x1x1296, .f32⟩ : BufTy).Contents (Elt F) → (⟨S16x32x32x1296, .f32⟩ : BufTy).Contents (Elt F)),
    binary main_v7 main_v8 main_v9 (addf : (⟨S16x32x32x1296, .f32⟩ : BufTy).Contents (Elt F) → (⟨S16x32x32x1296, .f32⟩ : BufTy).Contents (Elt F) → (⟨S16x32x32x1296, .f32⟩ : BufTy).Contents (Elt F)),
    nullary main_cst_1 (constant S_ .f32 0x40000000#32),
    unary main_cst_1 main_v10 (broadcastInDim S16x32x32x1296 ![] bcast_S_S16x32x32x1296 : (⟨S_, .f32⟩ : BufTy).Contents (Elt F) → (⟨S16x32x32x1296, .f32⟩ : BufTy).Contents (Elt F)),
    binary main_v10 main_v5 main_v11 (mulf : (⟨S16x32x32x1296, .f32⟩ : BufTy).Contents (Elt F) → (⟨S16x32x32x1296, .f32⟩ : BufTy).Contents (Elt F) → (⟨S16x32x32x1296, .f32⟩ : BufTy).Contents (Elt F)),
    binary main_v9 main_v11 main_v12 (subf : (⟨S16x32x32x1296, .f32⟩ : BufTy).Contents (Elt F) → (⟨S16x32x32x1296, .f32⟩ : BufTy).Contents (Elt F) → (⟨S16x32x32x1296, .f32⟩ : BufTy).Contents (Elt F)),
    TRef.nullary (TRef.of (T := ⟨S16x32x32x1296, .i32⟩) main_call0_v0) (iotaInDim S16x32x32x1296 32 3),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16x32x32x1296, .f32⟩) main_v12) (TRef.of (T := ⟨S16x32x32x1296, .i32⟩) main_call0_v0) (TRef.of (T := ⟨S_, .f32⟩) main_call0_cst) (TRef.of (T := ⟨S_, .i32⟩) main_call0_c) (TRef.of (T := ⟨S16x32x32, .f32⟩) main_call0_v1_0) pairVal,
    TRef.quaternary (TRef.of (T := ⟨S16x32x32x1296, .f32⟩) main_v12) (TRef.of (T := ⟨S16x32x32x1296, .i32⟩) main_call0_v0) (TRef.of (T := ⟨S_, .f32⟩) main_call0_cst) (TRef.of (T := ⟨S_, .i32⟩) main_call0_c) (TRef.of (T := ⟨S16x32x32, .i32⟩) main_v13) pairPos,
    TRef.nullary (TRef.of (T := ⟨S_, .i32⟩) main_call1_c) (constantI S_ 32 0#32),
    TRef.unary (TRef.of (T := ⟨S_, .i32⟩) main_call1_c) (TRef.of (T := ⟨S16x32x32, .i32⟩) main_call1_v0) (broadcastInDim S16x32x32 ![] bcast_S_S16x32x32),
    TRef.binary (TRef.of (T := ⟨S16x32x32, .i32⟩) main_v13) (TRef.of (T := ⟨S16x32x32, .i32⟩) main_call1_v0) (TRef.of (T := ⟨S16x32x32, .i1⟩) main_call1_v1) (cmpi .slt),
    TRef.nullary (TRef.of (T := ⟨S_, .i32⟩) main_call1_c_0) (constantI S_ 32 1296#32),
    TRef.unary (TRef.of (T := ⟨S_, .i32⟩) main_call1_c_0) (TRef.of (T := ⟨S16x32x32, .i32⟩) main_call1_v2) (broadcastInDim S16x32x32 ![] bcast_S_S16x32x32),
    TRef.binary (TRef.of (T := ⟨S16x32x32, .i32⟩) main_v13) (TRef.of (T := ⟨S16x32x32, .i32⟩) main_call1_v2) (TRef.of (T := ⟨S16x32x32, .i32⟩) main_call1_v3) addi,
    TRef.ternary (TRef.of (T := ⟨S16x32x32, .i1⟩) main_call1_v1) (TRef.of (T := ⟨S16x32x32, .i32⟩) main_call1_v3) (TRef.of (T := ⟨S16x32x32, .i32⟩) main_v13) (TRef.of (T := ⟨S16x32x32, .i32⟩) main_call1_v4) select,
    TRef.unary (TRef.of (T := ⟨S16x32x32, .i32⟩) main_call1_v4) (TRef.of (T := ⟨S16x32x32x1, .i32⟩) main_call1_v5) (broadcastInDim S16x32x32x1 ![0, 1, 2] bcast_S16x32x32_S16x32x32x1_0_1_2),
    TRef.nullary (TRef.of (T := ⟨S1, .i32⟩) main_call1_c_1) (constantI S1 32 1295#32),
    TRef.nullary (TRef.of (T := ⟨S_, .i32⟩) main_call1_c_2) (constantI S_ 32 0#32),
    TRef.unary (TRef.of (T := ⟨S_, .i32⟩) main_call1_c_2) (TRef.of (T := ⟨S16x32x32x1, .i32⟩) main_call1_v6) (broadcastInDim S16x32x32x1 ![] bcast_S_S16x32x32x1),
    TRef.binary (TRef.of (T := ⟨S16x32x32x1, .i32⟩) main_call1_v5) (TRef.of (T := ⟨S16x32x32x1, .i32⟩) main_call1_v6) (TRef.of (T := ⟨S16x32x32x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S16x32x32x1, .i32⟩) main_call1_v9) (broadcastInDim S16x32x32x1 ![0, 1, 2, 3] bcast_S1x1x1x1_S16x32x32x1_0_1_2_3),
    TRef.binary (TRef.of (T := ⟨S16x32x32x1, .i32⟩) main_call1_v5) (TRef.of (T := ⟨S16x32x32x1, .i32⟩) main_call1_v9) (TRef.of (T := ⟨S16x32x32x1, .i1⟩) main_call1_v10) (cmpi .sle),
    TRef.binary (TRef.of (T := ⟨S16x32x32x1, .i1⟩) main_call1_v7) (TRef.of (T := ⟨S16x32x32x1, .i1⟩) main_call1_v10) (TRef.of (T := ⟨S16x32x32x1, .i1⟩) main_call1_v11) andi,
    TRef.nullary (TRef.of (T := ⟨S_, .i1⟩) main_call1_c_3) (constantI S_ 1 1#1),
    TRef.binary (TRef.of (T := ⟨S16x32x32x1, .i1⟩) main_call1_v11) (TRef.of (T := ⟨S_, .i1⟩) main_call1_c_3) (TRef.of (T := ⟨S16x32x32, .i1⟩) main_call1_v12) (fun x v => Host.reduce IntOp.andi x v reducesTo_S16x32x32x1_S16x32x32_d3 h_S_),
    TRef.binary (TRef.of (T := ⟨S1296x256, .f32⟩) main_arg1) (TRef.of (T := ⟨S16x32x32x1, .i32⟩) main_call1_v5) (TRef.of (T := ⟨S16x32x32x256, .f32⟩) main_call1_v13) (fun x i => Host.gather gather_S1296x256_S16x32x32x1_S16x32x32x256_3_0_n_n_0_3_1256 x i),
    TRef.unary (TRef.of (T := ⟨S16x32x32, .i1⟩) main_call1_v12) (TRef.of (T := ⟨S16x32x32x256, .i1⟩) main_call1_v14) (broadcastInDim S16x32x32x256 ![0, 1, 2] bcast_S16x32x32_S16x32x32x256_0_1_2),
    TRef.nullary (TRef.of (T := ⟨S_, .f32⟩) main_call1_cst) (constant S_ .f32 0x7FC00000#32),
    TRef.unary (TRef.of (T := ⟨S_, .f32⟩) main_call1_cst) (TRef.of (T := ⟨S16x32x32x256, .f32⟩) main_call1_v15) (broadcastInDim S16x32x32x256 ![] bcast_S_S16x32x32x256),
    TRef.ternary (TRef.of (T := ⟨S16x32x32x256, .i1⟩) main_call1_v14) (TRef.of (T := ⟨S16x32x32x256, .f32⟩) main_call1_v13) (TRef.of (T := ⟨S16x32x32x256, .f32⟩) main_call1_v15) (TRef.of (T := ⟨S16x32x32x256, .f32⟩) main_v14) select ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., binary_bufs_sub .., unary_bufs_sub .., unary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxHeartbeats 4000000 in
/-- The run of the reference: the nearest codes, and the rows of the table that they name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v13) = refCodes (m ((c.tc : Thread nD τ).loc main_arg0)) (m ((c.tc : Thread nD τ).loc main_arg1))
      ∧ r.2.mem ((c.tc : Thread nD τ).loc main_v14) = taken (m ((c.tc : Thread nD τ).loc main_arg1)) (refCodes (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨⟨(h c main_v13).trans (by simp only [ops, TRef.binary, TRef.nullary, TRef.ternary, TRef.quaternary, TRef.unary, TRef.toBuf, TRef.ofBuf, cast_eq]; after_results <;> rfl),
      (h c main_v14).trans (by simp only [ops, TRef.binary, TRef.nullary, TRef.ternary, TRef.quaternary, TRef.unary, TRef.toBuf, TRef.ofBuf, cast_eq]; after_results <;> rfl)⟩,
      (h c main_arg0).trans (by simp only [ops, TRef.binary, TRef.nullary, TRef.ternary, TRef.quaternary, TRef.unary, TRef.toBuf, TRef.ofBuf, cast_eq]; after_results <;> rfl),
      (h c main_arg1).trans (by simp only [ops, TRef.binary, TRef.nullary, TRef.ternary, TRef.quaternary, TRef.unary, TRef.toBuf, TRef.ofBuf, cast_eq]; after_results <;> rfl)⟩)
    (run_seq scopedRefs_eq scopedSems_eq defs main (fun _ => ops (F := Ideal)) main_eq (fun _ => ops_sub) m ρ)

end Cert.Proof.Ref
-- ==== Proof.Whole.Take4.lean ====
/-
  The take of the whole reference — `jnp.take` of rows at a three-dimensional array of codes — read
  at an entry where every code is in range.
-/
module

public import proofs.«01_k».proof.Proof.Values.Take
public import proofs.«01_k».proof.Proof.Whole.RefRun

@[expose] public section

noncomputable section

namespace Cert.Proof.Ref

open Cert.ReferenceIdeal Cert.ReferenceIdeal.Gen
open Idealize.ShloMosaic Idealize.ShloMosaic.StableHlo Idealize.ShloMosaic.ValueIdx

/-- Where the gather reads its row number for an entry of the result: the entry's image, row and column. -/
def asking (i : S16x32x32x256.Idx) : S16x32x32.Idx := fun a => match a with
  | ⟨0, _⟩ => i 0
  | ⟨1, _⟩ => i 1
  | ⟨2, _⟩ => i 2

abbrev gd : GatherDims S1296x256 S16x32x32x1 S16x32x32x256 := gather_S1296x256_S16x32x32x1_S16x32x32x256_3_0_n_n_0_3_1256

/-- A row of the table at codes spread over a trailing axis, all in range. -/
theorem gather_rows (e : FVec Ideal S1296x256 .f32) (c : IVec S16x32x32 32) (h : ∀ k, (c k).toNat < 1296) (i : S16x32x32x256.Idx) :
    Host.gather gd e (broadcastInDim S16x32x32x1 ![0, 1, 2] bcast_S16x32x32_S16x32x32x1_0_1_2 c) i
      = e (ValueIdx.ix2 (⟨(c (asking i)).toNat, h _⟩ : Fin 1296) (i 3)) := by
  unfold Host.gather
  refine congrArg e (funext fun a => Fin.ext ?_)
  have nb : ∀ a : Fin 2, gd.batchCoord i a = 0 := fun a => gd.batchCoord_eq_zero i a List.not_mem_nil
  match a with
  | ⟨0, _⟩ =>
    show gd.start i _ 0 + gd.batchCoord i 0 + gd.offCoord i 0 = (c (asking i)).toNat
    have ho : gd.offCoord i 0 = 0 := gd.offCoord_eq_zero i 0 fun hk => ((gd.mem_sKept 0).mp hk).1 (List.mem_singleton.mpr rfl)
    have hs : gd.start i (broadcastInDim S16x32x32x1 ![0, 1, 2] bcast_S16x32x32_S16x32x32x1_0_1_2 c) 0 = min (c (asking i)).toInt.toNat 1295 := by
      unfold GatherDims.start
      rw [dif_pos (show (0 : Fin 2) ∈ gd.startIndexMap from List.mem_singleton.mpr rfl)]
      refine congrArg (fun w : BitVec 32 => min w.toInt.toNat 1295) (congrArg c ?_)
      funext b; apply Fin.ext
      match b with
      | ⟨0, _⟩ => rfl
      | ⟨1, _⟩ => rfl
      | ⟨2, _⟩ => rfl
    have hc := h (asking i)
    have hi : (c (asking i)).toInt = ((c (asking i)).toNat : Int) := BitVec.toInt_eq_toNat_of_lt (by omega)
    rw [nb, ho, hs, hi]
    omega
  | ⟨1, _⟩ =>
    show gd.start i _ 1 + gd.batchCoord i 1 + gd.offCoord i 1 = (i 3).val
    have hs : gd.start i (broadcastInDim S16x32x32x1 ![0, 1, 2] bcast_S16x32x32_S16x32x32x1_0_1_2 c) 1 = 0 := by
      unfold GatherDims.start
      rw [dif_neg (show ¬ (1 : Fin 2) ∈ gd.startIndexMap from by decide)]
    have ho : gd.offCoord i 1 = (i 3).val := by
      unfold GatherDims.offCoord
      rw [dif_pos ((gd.mem_sKept 1).mpr ⟨by decide, List.not_mem_nil⟩)]
      rfl
    rw [nb, hs, ho]
    omega

/-- The printed take at codes in range: each entry is that of the row its code names. -/
theorem taken_apply (e : FVec Ideal S1296x256 .f32) (c : IVec S16x32x32 32) (h : ∀ k, (c k).toNat < 1296) (i : S16x32x32x256.Idx) :
    taken e c i = takeRow e (c (asking i)) (i 3) := by
  have hw : wrap3 c = c := funext fun k => wrap_in_range (c k) _ (h k)
  have hm : ∀ k, mask3 c k = 1#1 := fun k =>
    Host.reduce_andi_one _ _ _ _ k rfl fun i => mask_in_range _ (h _)
  unfold taken
  rw [hw]
  show Scalar.select (mask3 c _) _ _ = _
  rw [hm]
  exact (gather_rows e c h i).trans (takeRow_of_lt e _ (h _) _).symm

end Cert.Proof.Ref
-- ==== Proof.Whole.Claims.lean ====
/-
  The claims of the whole kernel: it runs and keeps its arguments, and under finite inputs both of its
  results are the reference's.
-/
module

public import proofs.«01_k».proof.Defs
public import proofs.«01_k».proof.Proof.Whole.Ends
public import proofs.«01_k».proof.Proof.Whole.Take4
public import proofs.«01_k».proof.Proof.Gen.Pre_finite

@[expose] public section

noncomputable section

namespace Cert.Proof.Whole

open Cert.KernelIdeal Cert.KernelIdeal.Gen
open Idealize.ShloMosaic Idealize.ShloMosaic.TcCoe Idealize.SL.Sem
open Idealize.ShloMosaic.StableHlo

/-! ## The values -/

/-- The image, row and column of an entry of the second result. -/
abbrev place (i : S16x32x32x256.Idx) : S16x32x32.Idx := Ref.asking i

/-- An entry of the gathered rows, back in the shape of the input, is that of the row its code names. -/
theorem rows_back {α : Type} (e : S1296x256.Idx → α) (c : S16x32x32.Idx → BitVec 32) (h : S16x32x32.ShapeCasts S16384) (i : S16x32x32x256.Idx) :
    shapeCast S16x32x32x256 (gath (shapeCast S1296x2x128 e shapeCasts_S1296x256_S1296x2x128) (shapeCast S16384 c h)) shapeCasts_S16384x2x128_S16x32x32x256 i
      = takeRow e (c (place i)) (i 3) := by
  have h0 : (i 0).val < 16 := (i 0).isLt
  have h1 : (i 1).val < 32 := (i 1).isLt
  have h2 : (i 2).val < 32 := (i 2).isLt
  have h3 : (i 3).val < 256 := (i 3).isLt
  let n : Fin 16384 := ⟨((i 0).val * 32 + (i 1).val) * 32 + (i 2).val, by omega⟩
  rw [shapeCast_apply (k := (ValueIdx.ix3 n (⟨(i 3).val / 128, by omega⟩ : Fin 2) (⟨(i 3).val % 128, by omega⟩ : Fin 128) : S16384x2x128.Idx))
    (hk := by
      rw [Shape.rowMajor_val_three, Shape.rowMajor_val_four]
      show ((((i 0).val * 32 + (i 1).val) * 32 + (i 2).val) * 2 + (i 3).val / 128) * 128 + (i 3).val % 128
        = (((i 0).val * 32 + (i 1).val) * 32 + (i 2).val) * 256 + (i 3).val
      omega)]
  have hc : shapeCast S16384 c h (codeIx n) = c (place i) := by
    refine shapeCast_apply _ _ _ _ ?_
    rw [Shape.rowMajor_val_three, Shape.rowMajor_val_one]
    rfl
  unfold gath takeRow
  refine (shapeCast_apply (k := (ValueIdx.ix2 (⟨(shapeCast S16384 c h (codeIx n)).toNat % 1296, Nat.mod_lt _ (by decide)⟩ : Fin 1296) (i 3) : S1296x256.Idx)) _ _ _
    (hk := by
      rw [Shape.rowMajor_val_three, Shape.rowMajor_val_two]
      show (shapeCast S16384 c h (codeIx n)).toNat % 1296 * 256 + (i 3).val
        = ((shapeCast S16384 c h (codeIx n)).toNat % 1296 * 2 + (i 3).val / 128) * 128 + (i 3).val % 128
      omega)).trans ?_
  simp only [hc]

section

variable (m : (ℓ : Loc nD τ sig) → Buf (Elt Ideal) ℓ)

/-- The codes that the gather is given, under finite inputs: the reference's, laid flat. -/
theorem codes_flat (d : Dev nD) (h : Real (inX m d) (inE m d)) :
    ixIn m d = shapeCast S16384 (refCodes (inX m d) (inE m d)) (by decide) := by
  have e : cod m d = shapeCast S32x1x512 (refCodes (inX m d) (inE m d)) (by decide) := (codes3_eq (inX m d) (inE m d) h (by decide)).symm
  rw [ixIn_eq, e, shapeCast_comp]

theorem first_result (d : Dev nD) (h : Real (inX m d) (inE m d)) :
    VEnd m d (Proc.devRef .tc main_v8) = refCodes (inX m d) (inE m d) := by
  rw [VEnd_codes, codes_flat m d h]
  exact shapeCast_shapeCast _ _ _

theorem second_result (d : Dev nD) (h : Real (inX m d) (inE m d)) :
    VEnd m d (Proc.devRef .tc main_v9) = Ref.taken (inE m d) (refCodes (inX m d) (inE m d)) := by
  have hr : ∀ k, (refCodes (inX m d) (inE m d) k).toNat < 1296 := fun k => by
    rw [← first_result m d h, VEnd_codes]
    exact in_rows m d _
  rw [VEnd_rows]
  unfold gathBuf
  rw [tbIn_eq, codes_flat m d h]
  funext i
  exact (rows_back _ _ _ i).trans (Ref.taken_apply _ _ hr i).symm

theorem mem_of_QC {r : PUnit × MemSt nD τ sig (Elt Ideal)} (h : QC m r) (d : Dev nD) (b : Ref sig .tc) (hb : b.isScoped = false) :
    r.2.mem ((d.tc : Thread nD τ).loc b) = VEnd m d (Proc.devRef .tc b) := h.1 d _ (mem_arrs b hb)

end

/-! ## The claims -/

theorem frame_KernelIdeal : Cert.quiescent_KernelIdeal := fun m ρ _ =>
  (θ_run Cert.KernelIdeal.defs _ _).mono
    (fun _ h => ⟨fun d => ⟨(mem_of_QC m h d main_arg0 rfl).trans (VEnd_arg0 m d), (mem_of_QC m h d main_arg1 rfl).trans (VEnd_arg1 m d)⟩, h.2⟩)
    (run_main (F := Ideal) m ρ (in_rows m))

theorem frame_KernelIdeal_pre : Cert.quiescent_KernelIdeal_pre_finite := fun m ρ _ => frame_KernelIdeal m ρ trivial

theorem frame_ReferenceIdeal : Cert.quiescent_ReferenceIdeal := fun m ρ _ =>
  (θ_run Cert.ReferenceIdeal.defs _ _).mono (fun r h => ⟨fun d => (h d).2, sem_eq_zero_of_no_sems (by decide) r.2⟩) (Ref.run m ρ)

theorem frame_ReferenceIdeal_pre : Cert.quiescent_ReferenceIdeal_pre_finite := fun m ρ _ => frame_ReferenceIdeal m ρ trivial

theorem algebraic_Kernel : Cert.algebraic_KernelIdeal_ReferenceIdeal_pre_finite := by
  intro m g m' g' hpre hargs
  refine ⟨fun d => VEnd m d (Proc.devRef .tc main_v8), fun d => VEnd m d (Proc.devRef .tc main_v9), ?_, ?_⟩
  · exact (θ_run Cert.KernelIdeal.defs _ _).mono
      (fun _ h d => ⟨mem_of_QC m h d main_v8 rfl, mem_of_QC m h d main_v9 rfl,
        (mem_of_QC m h d main_arg0 rfl).trans (VEnd_arg0 m d), (mem_of_QC m h d main_arg1 rfl).trans (VEnd_arg1 m d)⟩)
      (run_main (F := Ideal) m g (in_rows m))
  · refine (θ_run Cert.ReferenceIdeal.defs _ _).mono (fun _ h d => ⟨(h d).1.1.trans ?_, (h d).1.2.trans ?_, (h d).2⟩) (Ref.run m' g')
    · obtain ⟨h0, h1⟩ := hargs d
      rw [h0, h1]
      exact (first_result m d (real_of_pre _ _ (hpre d))).symm
    · obtain ⟨h0, h1⟩ := hargs d
      rw [h0, h1]
      exact (second_result m d (real_of_pre _ _ (hpre d))).symm

end Cert.Proof.Whole
-- ==== Proof.lean ====
/-
  The proof of `Cert.Claim`: the claims of the whole kernel, and of each of its two calls by itself.
-/
module

public import proofs.«01_k».proof.Defs
public import proofs.«01_k».proof.Proof.Gen.KernelIdeal
public import proofs.«01_k».proof.Proof.Gen.ReferenceIdeal
public import proofs.«01_k».proof.Proof.Gen.Gather
public import proofs.«01_k».proof.Proof.Gen.GatherIdeal
public import proofs.«01_k».proof.Proof.Gen.GatherReference
public import proofs.«01_k».proof.Proof.Gen.GatherReferenceIdeal
public import proofs.«01_k».proof.Proof.Gen.GatherReferenceIdeal.Run
public import proofs.«01_k».proof.Proof.Gen.Nearest
public import proofs.«01_k».proof.Proof.Gen.NearestIdeal
public import proofs.«01_k».proof.Proof.Gen.Nearest.Frame
public import proofs.«01_k».proof.Proof.Gen.NearestIdeal.Frame
public import proofs.«01_k».proof.Proof.Gen.NearestIdeal.Value
public import proofs.«01_k».proof.Proof.Gen.NearestReferenceIdeal
public import proofs.«01_k».proof.Proof.Gen.Pre_finite
public import proofs.«01_k».proof.Proof.Gen.Pre_codes_name_rows
public import proofs.«01_k».proof.Proof.Sc.Claims
public import proofs.«01_k».proof.Proof.Near.Claims
public import proofs.«01_k».proof.Proof.Whole.Claims

@[expose] public section

noncomputable section

namespace Cert.Proof

open Idealize.ShloMosaic Idealize.SL.Sem

theorem claim : Cert.Claim :=
  ⟨Cert.KernelIdeal.Gen.facts, Cert.ReferenceIdeal.Gen.facts, Cert.Gather.Gen.facts, Cert.GatherIdeal.Gen.facts, Cert.GatherReferenceIdeal.Gen.facts, Cert.GatherReference.Gen.facts,
    Cert.Nearest.Gen.facts, Cert.NearestIdeal.Gen.facts, Cert.NearestReferenceIdeal.Gen.facts, Cert.Pre_finite.Gen.facts, Cert.Pre_codes_name_rows.Gen.facts,
    Whole.frame_KernelIdeal, Whole.frame_KernelIdeal_pre, Whole.frame_ReferenceIdeal, Whole.frame_ReferenceIdeal_pre,
    Sc.frame_Gather, Sc.frame_GatherIdeal, Sc.frame_GatherReferenceIdeal, Sc.frame_GatherReferenceIdeal_pre, Sc.frame_GatherReference,
    Near.frame_Nearest, Near.frame_NearestIdeal, Near.frame_NearestIdeal_pre, Near.frame_NearestReferenceIdeal, Near.frame_NearestReferenceIdeal_pre,
    Whole.algebraic_Kernel, trivial, Sc.algebraic_Gather, Sc.bitexact_Gather, trivial, Near.algebraic_Nearest⟩

end Cert.Proof
